-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![2048, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S512x512 : Shape := ⟨2, ![512, 512]⟩
abbrev S16x256x512 : Shape := ⟨3, ![16, 256, 512]⟩
abbrev S4x16 : Shape := ⟨2, ![4, 16]⟩
abbrev S6 : Shape := ⟨1, ![6]⟩
abbrev S3 : Shape := ⟨1, ![3]⟩
abbrev S_ : Shape := ⟨0, ![]⟩
abbrev S1x16 : Shape := ⟨2, ![1, 16]⟩
abbrev S512x16 : Shape := ⟨2, ![512, 16]⟩
abbrev S16 : Shape := ⟨1, ![16]⟩
abbrev S1 : Shape := ⟨1, ![1]⟩
abbrev S2x256x512 : Shape := ⟨3, ![2, 256, 512]⟩
abbrev S4x1 : Shape := ⟨2, ![4, 1]⟩
abbrev S512 : Shape := ⟨1, ![512]⟩
abbrev S1x256x512 : Shape := ⟨3, ![1, 256, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S4x256x512, .bf16⟩
  | .hbm, ⟨4, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S4x256x512, .bf16⟩
  | .local _ .vmem, ⟨3, _⟩ => ⟨S512x512, .f32⟩
  | .local _ .vmem, ⟨4, _⟩ => ⟨S16x256x512, .bf16⟩
  | .local _ .vmem, ⟨5, _⟩ => ⟨S4x16, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v27 : Index := Scalar.indexCast v2
  let c0_15 : Index := 0#32
  ![v27.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_20 : BitVec 32 := 0#32
  ![v2.toNat, 0]
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_18 : BitVec 32 := 1#32
  let v31 : BitVec 32 := Scalar.muli v7 c1_i32_18
  let v32 : BitVec 32 := Scalar.addi c0_i32_19 v31
  v32.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_24 : BitVec 32 := 1#32
  let v39 : BitVec 32 := Scalar.muli v5 c1_i32_24
  let v40 : BitVec 32 := Scalar.addi c0_i32_25 v39
  v40.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_30 : BitVec 32 := 1#32
  let v47 : BitVec 32 := Scalar.muli v9 c1_i32_30
  let v48 : BitVec 32 := Scalar.addi c0_i32_31 v47
  v48.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_37 : BitVec 32 := 4#32
  let v57 : BitVec 32 := Scalar.muli v2 c4_i32_37
  let v58 : Index := Scalar.indexCast v57
  let c0_38 : Index := 0#32
  let c0_39 : Index := 0#32
  ![v58.toNat, 0, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_40 : BitVec 32 := 4#32
  let v62 : BitVec 32 := Scalar.muli v2 c4_i32_40
  let c0_i32_47 : BitVec 32 := 0#32
  let c0_i32_48 : BitVec 32 := 0#32
  ![v62.toNat, 0, 0]
def k0_dev7 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_45 : BitVec 32 := 1#32
  let v65 : BitVec 32 := Scalar.muli v7 c1_i32_45
  let v66 : BitVec 32 := Scalar.addi c0_i32_46 v65
  v66.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_41 : BitVec 32 := 4#32
  let v63 : BitVec 32 := Scalar.muli v2 c4_i32_41
  let c2_i32_42 : BitVec 32 := 2#32
  let v64 : BitVec 32 := Scalar.addi v63 c2_i32_42
  let c0_i32_55 : BitVec 32 := 0#32
  let c0_i32_56 : BitVec 32 := 0#32
  ![v64.toNat, 0, 0]
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_53 : BitVec 32 := 1#32
  let v73 : BitVec 32 := Scalar.muli v7 c1_i32_53
  let v74 : BitVec 32 := Scalar.addi c0_i32_54 v73
  v74.toNat
def k0_dev9 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_61 : BitVec 32 := 1#32
  let v81 : BitVec 32 := Scalar.muli v5 c1_i32_61
  let v82 : BitVec 32 := Scalar.addi c0_i32_62 v81
  v82.toNat
def k0_dev10 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_69 : BitVec 32 := 1#32
  let v89 : BitVec 32 := Scalar.muli v5 c1_i32_69
  let v90 : BitVec 32 := Scalar.addi c0_i32_70 v89
  v90.toNat
def k0_off6 (d0 : Dev nD) (c0_i32_105 : BitVec 32) (c0_i32_109 : BitVec 32) (c0_i32_110 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v147 : BitVec 32 := Scalar.addi v2 c0_i32_105
  let c4_i32_106 : BitVec 32 := 4#32
  let v148 : BitVec 32 := Scalar.addi v147 c4_i32_106
  let c4_i32_107 : BitVec 32 := 4#32
  let v149 : BitVec 32 := Scalar.remsi v148 c4_i32_107
  let c4_i32_108 : BitVec 32 := 4#32
  let v150 : BitVec 32 := Scalar.muli v149 c4_i32_108
  let v151 : BitVec 32 := Scalar.addi v150 c0_i32_109
  let v152 : BitVec 32 := Scalar.addi v151 c0_i32_110
  let v165 : Index := Scalar.indexCast v152
  let c0_112 : Index := 0#32
  let c0_113 : Index := 0#32
  ![v165.toNat, 0, 0]
def k0_off6_at (r : Fin 12) : BitVec 32 × BitVec 32 × BitVec 32 :=
  if r.val < 6 then
    if r.val < 3 then
      if r.val < 1 then
        (0#32, 0#32, 0#32)
      else
        if r.val < 2 then
          (0#32, 0#32, 1#32)
        else
          (0#32, 2#32, 0#32)
    else
      if r.val < 4 then
        (0#32, 2#32, 1#32)
      else
        if r.val < 5 then
          (4294967295#32, 0#32, 0#32)
        else
          (4294967295#32, 0#32, 1#32)
  else
    if r.val < 9 then
      if r.val < 7 then
        (4294967295#32, 2#32, 0#32)
      else
        if r.val < 8 then
          (4294967295#32, 2#32, 1#32)
        else
          (1#32, 0#32, 0#32)
    else
      if r.val < 10 then
        (1#32, 0#32, 1#32)
      else
        if r.val < 11 then
          (1#32, 2#32, 0#32)
        else
          (1#32, 2#32, 1#32)
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_136 : BitVec 32 := 1#32
  let v238 : BitVec 32 := Scalar.subi v2 c1_i32_136
  let c4_i32_137 : BitVec 32 := 4#32
  let v239 : BitVec 32 := Scalar.addi v238 c4_i32_137
  let c4_i32_138 : BitVec 32 := 4#32
  let v240 : BitVec 32 := Scalar.remsi v239 c4_i32_138
  let c4_i32_149 : BitVec 32 := 4#32
  let v249 : BitVec 32 := Scalar.muli v240 c4_i32_149
  let c0_i32_154 : BitVec 32 := 0#32
  let c0_i32_155 : BitVec 32 := 0#32
  ![v249.toNat, 0, 0]
def k0_dev11 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_152 : BitVec 32 := 1#32
  let v250 : BitVec 32 := Scalar.muli v7 c1_i32_152
  let v251 : BitVec 32 := Scalar.addi c0_i32_153 v250
  v251.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_139 : BitVec 32 := 1#32
  let v241 : BitVec 32 := Scalar.addi v2 c1_i32_139
  let c4_i32_140 : BitVec 32 := 4#32
  let v242 : BitVec 32 := Scalar.remsi v241 c4_i32_140
  let c4_i32_166 : BitVec 32 := 4#32
  let v264 : BitVec 32 := Scalar.muli v242 c4_i32_166
  let c2_i32_167 : BitVec 32 := 2#32
  let v265 : BitVec 32 := Scalar.addi v264 c2_i32_167
  let c0_i32_171 : BitVec 32 := 0#32
  let c0_i32_172 : BitVec 32 := 0#32
  ![v265.toNat, 0, 0]
def k0_dev12 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_169 : BitVec 32 := 1#32
  let v266 : BitVec 32 := Scalar.muli v5 c1_i32_169
  let v267 : BitVec 32 := Scalar.addi c0_i32_170 v266
  v267.toNat
def k0_off9 (d0 : Dev nD) (c0_i32_263 : BitVec 32) (c0_i32_264 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_252 : BitVec 32 := 2#32
  let v468 : BitVec 32 := Scalar.addi v2 c2_i32_252
  let c4_i32_253 : BitVec 32 := 4#32
  let v469 : BitVec 32 := Scalar.remsi v468 c4_i32_253
  let c4_i32_262 : BitVec 32 := 4#32
  let v476 : BitVec 32 := Scalar.muli v469 c4_i32_262
  let v477 : BitVec 32 := Scalar.addi v476 c0_i32_263
  let v478 : BitVec 32 := Scalar.addi v477 c0_i32_264
  let v491 : Index := Scalar.indexCast v478
  let c0_266 : Index := 0#32
  let c0_267 : Index := 0#32
  ![v491.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x256 : Shape := ⟨2, ![2048, 256]⟩
abbrev S256x16 : Shape := ⟨2, ![256, 16]⟩
abbrev S2048x1 : Shape := ⟨2, ![2048, 1]⟩
abbrev S16x256x512 : Shape := ⟨3, ![16, 256, 512]⟩
abbrev S16 : Shape := ⟨1, ![16]⟩
abbrev S1x16 : Shape := ⟨2, ![1, 16]⟩
abbrev S2048x16 : Shape := ⟨2, ![2048, 16]⟩
abbrev S_ : Shape := ⟨0, ![]⟩
abbrev S2048x16x512 : Shape := ⟨3, ![2048, 16, 512]⟩
abbrev S2048x16x1 : Shape := ⟨3, ![2048, 16, 1]⟩
abbrev S2048x512 : Shape := ⟨2, ![2048, 512]⟩

abbrev nBuf : Space → Nat
  | .hbm => 29
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x16, .bf16⟩
  | .hbm, ⟨2, _⟩ => ⟨S2048x1, .i32⟩
  | .hbm, ⟨3, _⟩ => ⟨S16x256x512, .bf16⟩
  | .hbm, ⟨4, _⟩ => ⟨S16, .i32⟩
  | .hbm, ⟨5, _⟩ => ⟨S1x16, .i32⟩
  | .hbm, ⟨6, _⟩ => ⟨S2048x16, .i32⟩
  | .hbm, ⟨7, _⟩ => ⟨S2048x16, .i32⟩
  | .hbm, ⟨8, _⟩ => ⟨S2048x16, .i1⟩
  | .hbm, ⟨9, _⟩ => ⟨S2048x16, .i32⟩
  | .hbm, ⟨10, _⟩ => ⟨S_, .i32⟩
  | .hbm, ⟨11, _⟩ => ⟨S_, .i32⟩
  | .hbm, ⟨12, _⟩ => ⟨S2048x16, .i32⟩
  | .hbm, ⟨13, _⟩ => ⟨S2048x16, .i32⟩
  | .hbm, ⟨14, _⟩ => ⟨S_, .i32⟩
  | .hbm, ⟨15, _⟩ => ⟨S2048x16, .i32⟩
  | .hbm, ⟨16, _⟩ => ⟨S2048x16, .i1⟩
  | .hbm, ⟨17, _⟩ => ⟨S2048x16, .i1⟩
  | .hbm, ⟨18, _⟩ => ⟨S2048x256, .f32⟩
  | .hbm, ⟨19, _⟩ => ⟨S16x256x512, .f32⟩
  | .hbm, ⟨20, _⟩ => ⟨S2048x16x512, .f32⟩
  | .hbm, ⟨21, _⟩ => ⟨S2048x16x1, .i1⟩
  | .hbm, ⟨22, _⟩ => ⟨S_, .f32⟩
  | .hbm, ⟨23, _⟩ => ⟨S_, .f32⟩
  | .hbm, ⟨24, _⟩ => ⟨S2048x16x512, .i1⟩
  | .hbm, ⟨25, _⟩ => ⟨S2048x16x512, .f32⟩
  | .hbm, ⟨26, _⟩ => ⟨S2048x16x512, .f32⟩
  | .hbm, ⟨27, _⟩ => ⟨S_, .f32⟩
  | .hbm, ⟨28, _⟩ => ⟨S2048x512, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.Prefix.lean ====
/-
  RUNNING TOTALS: what the reference's cumulative sum down the columns of a table of words holds.
-/
module

public import Idealize.ShloMosaic.Lib.Routing.Ops
public import Idealize.ShloMosaic.Lib.Pointwise

@[expose] public section

noncomputable section

namespace Cert.Moe

open Idealize.ShloMosaic Idealize.ShloMosaic.Routing

/-- A one-column window of `N` rows has `N` positions; position `n` is row `n`. -/
theorem window_numel (N : Nat) : (⟨2, ![N, 1]⟩ : Shape).numel = N := by
  show ∏ a : Fin 2, (![N, 1] : Fin 2 → Nat) a = N
  rw [Fin.prod_univ_two]
  exact Nat.mul_one N
theorem window_row {N : Nat} (n : Fin (⟨2, ![N, 1]⟩ : Shape).numel) :
    (⟨2, ![N, 1]⟩ : Shape).rowMajor.symm n = ix2 (n.cast (window_numel N)) (0 : Fin 1) := by
  rw [Equiv.symm_apply_eq]
  apply Fin.ext
  rw [Shape.rowMajor_val_two]
  show n.val = n.val * 1 + 0
  omega

/-- A window over all rows, padded above by one row less, totals a column's entries down to its own row. -/
theorem running_total {P M : Nat} (x : IVec (⟨2, ![P + 1, M]⟩ : Shape) 32) (f : Nat → Nat) (e : Fin M)
    (hx : ∀ n : Fin (P + 1), x (ix2 n e) = BitVec.ofNat 32 (f n.val)) (z : IVec (⟨0, ![]⟩ : Shape) 32) (hz : ∀ i, z i = 0#32)
    (hw : (⟨2, ![P + 1, M]⟩ : Shape).ReduceWindows (![P + 1, 1] : Fin 2 → Nat) ![1, 1] ![P, 0] ![0, 0] (⟨2, ![P + 1, M]⟩ : Shape))
    (hu : 0 < (⟨0, ![]⟩ : Shape).numel) (j : Fin (P + 1)) :
    Host.reduceWindow IntOp.addi ![P + 1, 1] ![1, 1] ![P, 0] ![0, 0] x z hw hu (ix2 j e)
      = BitVec.ofNat 32 ((List.range (j.val + 1)).map f).sum := by
  let g : Nat → Nat := fun n => if P ≤ j.val + n then f (j.val + n - P) else 0
  have hj : j.val ≤ P := Nat.lt_succ_iff.mp j.isLt
  have total : ((List.finRange (⟨2, ![P + 1, 1]⟩ : Shape).numel).map fun n => g n.val).sum = ((List.range (j.val + 1)).map f).sum := by
    rw [map_finRange_val _ g, window_numel]
    exact sum_window f P j.val hj
  unfold Host.reduceWindow
  rw [← total, ← Nat.zero_add (List.sum _)]
  refine foldl_addi_ofNat _ _ (fun n : Fin (⟨2, ![P + 1, 1]⟩ : Shape).numel => g n.val) (fun n _ => ?_) _ 0 (hz _)
  have hn : n.val < P + 1 := (n.cast (window_numel _)).isLt
  have row : ((⟨2, ![P + 1, 1]⟩ : Shape).rowMajor.symm n 0).val = n.val := by rw [window_row]; rfl
  have col : ((⟨2, ![P + 1, 1]⟩ : Shape).rowMajor.symm n 1).val = 0 := by rw [window_row]; rfl
  have he := e.isLt
  have inside : (∀ a : Fin 2, (![P, 0] : Fin 2 → Nat) a ≤ (ix2 j e a).val * (![1, 1] : Fin 2 → Nat) a + ((⟨2, ![P + 1, 1]⟩ : Shape).rowMajor.symm n a).val
      ∧ (ix2 j e a).val * (![1, 1] : Fin 2 → Nat) a + ((⟨2, ![P + 1, 1]⟩ : Shape).rowMajor.symm n a).val - (![P, 0] : Fin 2 → Nat) a
          < (⟨2, ![P + 1, M]⟩ : Shape).size a) ↔ P ≤ j.val + n.val := by
    rw [Fin.forall_fin_two, row, col]
    show (P ≤ j.val * 1 + n.val ∧ j.val * 1 + n.val - P < P + 1) ∧ (0 ≤ e.val * 1 + 0 ∧ e.val * 1 + 0 - 0 < M) ↔ _
    omega
  dsimp only
  split
  · next hin =>
    have h : P ≤ j.val + n.val := inside.mp hin
    rw [show g n.val = f (j.val + n.val - P) from if_pos h]
    refine Eq.trans (congrArg x ?_) (hx ⟨j.val + n.val - P, by omega⟩)
    funext a
    apply Fin.ext
    revert a
    rw [Fin.forall_fin_two]
    constructor
    · show j.val * 1 + ((⟨2, ![P + 1, 1]⟩ : Shape).rowMajor.symm n 0).val - P = j.val + n.val - P
      rw [row, Nat.mul_one]
    · show e.val * 1 + ((⟨2, ![P + 1, 1]⟩ : Shape).rowMajor.symm n 1).val - 0 = e.val
      rw [col]; omega
  · next hin =>
    rw [show g n.val = 0 from if_neg fun h => hin (inside.mpr h)]
    exact hz _

/-- A sum up to a bound, as a sum over all rows of what lies below the bound. -/
theorem sum_below (f : Nat → Nat) {N n : Nat} (h : n ≤ N) : ∑ i : Fin N, (if i.val < n then f i.val else 0) = ∑ i ∈ Finset.range n, f i := by
  rw [Fin.sum_univ_eq_sum_range (fun i => if i < n then f i else 0) N, ← Finset.sum_filter]
  refine Finset.sum_congr (Finset.ext fun i => ?_) fun _ _ => rfl
  rw [Finset.mem_filter, Finset.mem_range, Finset.mem_range]
  omega

/-- A sum over the first `c` blocks of `B` rows. -/
theorem sum_blocks (f : Nat → Nat) (B c : Nat) : ∑ i ∈ Finset.range (B * c), f i = ∑ d ∈ Finset.range c, ∑ r : Fin B, f (B * d + r.val) := by
  induction c with
  | zero => rfl
  | succ c ih =>
    rw [Nat.mul_succ, Finset.sum_range_add, ih, Finset.sum_range_succ, Fin.sum_univ_eq_sum_range (fun i => f (B * c + i))]

theorem list_sum_range (f : Nat → Nat) (n : Nat) : ((List.range n).map f).sum = ∑ i ∈ Finset.range n, f i := by
  induction n with
  | zero => rfl
  | succ n ih => rw [List.range_succ, List.map_append, List.sum_append, ih, Finset.sum_range_succ]; rfl

end Cert.Moe

end
-- ==== Proof.Protocol.lean ====
/-
  THE PROTOCOL of the expert exchange: four devices, each holding four experts' weights and the routes of its own rows.

  Semaphores of one device `c` and what each means.
  * The barrier semaphore. Each of the other three devices signals it once; `c` waits for 3. The signal of the neighbour in
    direction `k` (right, left, across) hands `c` the windows in THAT device's scratch buffers that `c`'s transfers in
    direction `k` will write: no transfer starts before its destination has been given up by its owner.
  * Three count transfers (`cg`, row `c`, to the right, to the left, across), each with a send and a receive semaphore. The
    receive semaphore `k` of a device hands it the sender's row of `cg`, holding the sender's own expert counts.
  * Six weight transfers (`wg`, a half of a device's four experts each). Transfers 0 to 3 send the two halves of `c`'s own
    experts to both neighbours; transfers 4 and 5 forward one half that came from the left (transfer 0) to the right and one
    that came from the right (transfer 2) to the left. A receive semaphore hands its device the half's window holding the
    weights of the experts it names; a send semaphore hands the source window back.

  The contents never depend on the route a half took: every window of `wg` ends at the weights of the experts it names and
  every row of `cg` at the counts of the device it names (`wAll`, `cAll`), so a transfer's payload is the same function
  restricted to its window, on whichever device.

  Sources are read while they are in flight (the experts' weights are loaded during their own transfers), so a send gives up
  only a share of its source: half of the ownership stays with the device for its loads.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## Resources -/

/-- The exchange's cells have up to three duties a round. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

abbrev 𝒱₀ : Variants := Variants.none

/-! ## Devices, directions, transfers -/

/-- The device in direction `k` of `c`: 0 to the right, 1 to the left, 2 across. -/
def dv (k : Fin 3) (c : Dev nD) : Dev nD := ⟨(c.val + (![1, 3, 2] : Fin 3 → Nat) k) % 4, Nat.mod_lt _ (by decide)⟩
/-- The way back from direction `k`. -/
def opp : Fin 3 → Fin 3 := ![1, 0, 2]

theorem dv_opp (k : Fin 3) (c : Dev nD) : dv k (dv (opp k) c) = c := by revert k c; decide
theorem opp_dv (k : Fin 3) (c : Dev nD) : dv (opp k) (dv k c) = c := by revert k c; decide
theorem opp_opp (k : Fin 3) : opp (opp k) = k := by revert k; decide

/-- Going in direction `k` is a permutation of the devices. -/
def dvEquiv (k : Fin 3) : Dev nD ≃ Dev nD := ⟨dv k, dv (opp k), opp_dv k, dv_opp k⟩

/-- The nine transfers a device starts: three of its counts, six of weights. -/
abbrev T : Type := Fin 3 ⊕ Fin 6

def dir : T → Fin 3 := Sum.elim id ![0, 0, 1, 1, 0, 1]
/-- Where `c`'s transfer `t` goes, and where the transfer `t` that `c` receives comes from. -/
def peer (t : T) (c : Dev nD) : Dev nD := dv (dir t) c
def src (t : T) (c : Dev nD) : Dev nD := dv (opp (dir t)) c
theorem src_peer (t : T) (c : Dev nD) : src t (peer t c) = c := opp_dv _ _
theorem peer_src (t : T) (c : Dev nD) : peer t (src t c) = c := dv_opp _ _

/-- The half of the sixteen experts (two experts each, eight halves) that `c`'s weight transfer `k` carries: its own low
    half, its own high half twice, its own low half again, its left neighbour's low half, its right neighbour's high half. -/
def half (k : Fin 6) (c : Dev nD) : Fin 8 := ⟨(2 * c.val + (![0, 1, 1, 0, 6, 3] : Fin 6 → Nat) k) % 8, Nat.mod_lt _ (by decide)⟩
/-- The two halves of `c`'s own experts. -/
def lo (c : Dev nD) : Fin 8 := ⟨2 * c.val, by have : c.val < 4 := c.isLt; omega⟩
def hi (c : Dev nD) : Fin 8 := ⟨2 * c.val + 1, by have : c.val < 4 := c.isLt; omega⟩

/-! ## The windows -/

theorem half_inb : ∀ b : Fin 8, ∀ a, (![2 * b.val, 0, 0] : Fin 3 → Nat) a + S2x256x512.size a ≤ S16x256x512.size a := by decide
theorem row_inb : ∀ c : Dev nD, ∀ a, (![c.val, 0] : Fin 2 → Nat) a + S1x16.size a ≤ S4x16.size a := by decide

abbrev wM : Memref sig .tc .vmem S16x256x512 .bf16 := Memref.whole cc0_scratch0
abbrev cM : Memref sig .tc .vmem S4x16 .f32 := Memref.whole cc0_scratch1

abbrev halfR (b : Fin 8) : Rect S16x256x512 := Rect.unit (s := S16x256x512) ![2 * b.val, 0, 0] S2x256x512.size (half_inb b)
abbrev rowR (c : Dev nD) : Rect S4x16 := Rect.unit (s := S4x16) ![c.val, 0] S1x16.size (row_inb c)

/-- The window of `wg` of half `b`, the window of `cg` of device `j`. -/
abbrev halfM (b : Fin 8) : Memref sig .tc .vmem S2x256x512 .bf16 := wM.slice (halfR b) (fun _ => rfl)
abbrev rowM (j : Dev nD) : Memref sig .tc .vmem S1x16 .f32 := cM.slice (rowR j) (fun _ => rfl)

theorem halfM_set (b : Fin 8) : (halfM b).view.set = (halfR b).set := View.set_slice_whole _ _
theorem rowM_set (j : Dev nD) : (rowM j).view.set = (rowR j).set := View.set_slice_whole _ _

/-! ## Contents -/

/-- What the runtime stages of each operand on device `c`: its rows of `x`, its rows' routes, its experts' weights. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- All sixteen experts' weights, from the four devices that hold them. -/
def wAll : (cc0_scratch0 : Ref sig .tc).ty.Contents (Elt F) := fun i : S16x256x512.Idx =>
  k0_pay3 (wstg m ρ ⟨(i 0).val / 4, (Nat.div_lt_iff_lt_mul (by decide)).mpr (i 0).isLt⟩)
    (ix3 (⟨(i 0).val % 4, Nat.mod_lt _ (by decide)⟩ : Fin 4) (i 1) (i 2) : S4x256x512.Idx)
/-- Every device's expert counts. -/
def cAll : (cc0_scratch1 : Ref sig .tc).ty.Contents (Elt F) := fun i : S4x16.Idx =>
  k0_pay2 (rstg m ρ (i 0)) (ix2 (0 : Fin 1) (i 1) : S1x16.Idx)

/-! ## Ownership of a window -/

def halfPts (d : Dev nD) (b : Fin 8) (q : PosShare TreeShare) (f : (cc0_scratch0 : Ref sig .tc).ty.Contents (Elt F)) : sProp 𝕄 :=
  (halfM b).view.loc (d : Thread nD τ) ↦[(halfM b).view.set]{q} f
def rowPts (d : Dev nD) (j : Dev nD) (q : PosShare TreeShare) (f : (cc0_scratch1 : Ref sig .tc).ty.Contents (Elt F)) : sProp 𝕄 :=
  (rowM j).view.loc (d : Thread nD τ) ↦[(rowM j).view.set]{q} f

/-- The window of `c`'s transfer `t` — the same at its source and its destination — on device `d`, at its final contents. -/
def winPts : T → Dev nD → Dev nD → PosShare TreeShare → sProp 𝕄
  | .inl _, c, d, q => rowPts d c q (cAll m ρ)
  | .inr k, c, d, q => halfPts d (half k c) q (wAll m ρ)
/-- That window on the device the transfer goes to, before it lands. -/
def landing : T → Dev nD → sProp 𝕄
  | .inl k, c => iprop(∃ f, rowPts (peer (.inl k) c) c fullShare f)
  | .inr k, c => iprop(∃ f, halfPts (peer (.inr k) c) (half k c) fullShare f)

/-- The share of its source a transfer holds while in flight. The right half of every window stays with the device, which
    loads from it; the own windows' left halves serve two or three transfers at once. -/
def shr : T → PosShare TreeShare
  | .inl k => (![(fullShare : PosShare TreeShare).left.left, (fullShare : PosShare TreeShare).left.right.left, (fullShare : PosShare TreeShare).left.right.right] : Fin 3 → _) k
  | .inr k => (![(fullShare : PosShare TreeShare).left.left, (fullShare : PosShare TreeShare).left.left, (fullShare : PosShare TreeShare).left.right,
      (fullShare : PosShare TreeShare).left.right, (fullShare : PosShare TreeShare).left, (fullShare : PosShare TreeShare).left] : Fin 6 → _) k

instance halfPts_storable (d : Dev nD) (b : Fin 8) (q) (f) : BI.Storable (upEmb : UEmb _ 𝕄) (halfPts (F := F) d b q f) := by unfold halfPts; infer_instance
instance rowPts_storable (d : Dev nD) (j : Dev nD) (q) (f) : BI.Storable (upEmb : UEmb _ 𝕄) (rowPts (F := F) d j q f) := by unfold rowPts; infer_instance
instance winPts_storable (t : T) (c d : Dev nD) (q) : BI.Storable (upEmb : UEmb _ 𝕄) (winPts m ρ t c d q) := by
  cases t <;> (unfold winPts; infer_instance)
instance landing_storable (t : T) (c : Dev nD) : BI.Storable (upEmb : UEmb _ 𝕄) (landing (F := F) t c) := by
  cases t <;> (unfold landing; infer_instance)

/-! ## The semaphores -/

/-- The runtime's barrier semaphore. -/
abbrev barS : Sem sig := (SemArray.scalar (sig.barrier 0 rfl) : Sems sig S_).sem

/-- The send and the receive semaphore of each transfer, as the program slices them off its four semaphore arrays. -/
def sendS : T → DmaSem sig
  | .inl k => ((cc0_scratch4.slice (Rect.unit (s := S3) ![k.val] S1.size (by revert k; decide)) : DmaSems sig S1).squeeze S_ squeezes_S1_S_).sem
  | .inr k => ((cc0_scratch2.slice (Rect.unit (s := S6) ![k.val] S1.size (by revert k; decide)) : DmaSems sig S1).squeeze S_ squeezes_S1_S_).sem
def recvS : T → DmaSem sig
  | .inl k => ((cc0_scratch5.slice (Rect.unit (s := S3) ![k.val] S1.size (by revert k; decide)) : DmaSems sig S1).squeeze S_ squeezes_S1_S_).sem
  | .inr k => ((cc0_scratch3.slice (Rect.unit (s := S6) ![k.val] S1.size (by revert k; decide)) : DmaSems sig S1).squeeze S_ squeezes_S1_S_).sem

/-- All of a device's semaphores the exchange uses: the barrier, then per transfer its send and its receive semaphore. -/
abbrev CI : Type := Unit ⊕ (T ⊕ T)
def osem : T ⊕ T → SemLoc sig := Sum.elim (fun t => .dma (sendS t)) (fun t => .dma (recvS t))
def csem : CI → SemLoc sig := Sum.elim (fun _ => .reg barS) osem

theorem osem_inj : Function.Injective osem := by decide
theorem csem_inj : Function.Injective csem := by
  rintro (_ | a) (_ | b) h
  · rfl
  · rcases b with b | b <;> cases h
  · rcases a with a | a <;> cases h
  · exact congrArg _ (osem_inj h)

abbrev cell (c : Dev nD) (i : CI) : GSem nD τ sig := ((c : Thread nD τ), csem i)
abbrev barCell (c : Dev nD) : GSem nD τ sig := cell c (.inl ())
abbrev sendCell (t : T) (c : Dev nD) : GSem nD τ sig := cell c (.inr (.inl t))
abbrev recvCell (t : T) (c : Dev nD) : GSem nD τ sig := cell c (.inr (.inr t))

theorem cell_inj {c c' : Dev nD} {i i' : CI} (h : cell c i = cell c' i') : c = c' ∧ i = i' :=
  ⟨Fin.ext (congrArg (fun g : GSem nD τ sig => g.1.1.val) h), csem_inj (congrArg Prod.snd h)⟩

/-- Which of the exchange's semaphores a semaphore is. -/
def dec (sm : SemLoc sig) : Option CI := (Finset.univ : Finset CI).toList.find? fun i => csem i = sm

theorem dec_csem (i : CI) : dec (csem i) = some i := by
  unfold dec
  rcases h : (Finset.univ : Finset CI).toList.find? (fun j => csem j = csem i) with _ | j
  · exact absurd (List.find?_eq_none.mp h i (by simp)) (by simp)
  · have hj : j = i := csem_inj (by simpa using List.find?_some h)
    rw [hj]

/-- The units a transfer credits its two semaphores. -/
def N : T → ℕ := Sum.elim (fun _ => (rowM 0).view.dmaCredit) (fun _ => (halfM 0).view.dmaCredit)
theorem N_pos (t : T) : 0 < N t := by cases t <;> exact View.dmaCredit_pos _ (by decide)

/-! ## The schedule: one round, round 0 -/

/-- What the neighbour in direction `k` hands device `c` with its barrier signal: the destinations of `c`'s transfers in
    that direction. -/
def barPay (k : Fin 3) (c : Dev nD) : sProp 𝕄 := bigSep (Finset.univ.filter fun t => dir t = k) fun t => landing t c
/-- What a transfer hands its receiver `d`: the window, holding what the sender put into it. -/
def recvPay (t : T) (d : Dev nD) : sProp 𝕄 := winPts m ρ t (src t d) d fullShare
/-- What it hands its sender `c` back: the share of the source it held. -/
def sendPay (t : T) (c : Dev nD) : sProp 𝕄 := winPts m ρ t c c (shr t)

def dutiesOf : CI → Finset (Fin 3) := Sum.elim (fun _ => Finset.univ) (fun _ => {0})
def amountOf : CI → ℕ := Sum.elim (fun _ => 1) (Sum.elim N N)
def payOf : CI → Dev nD → Fin 3 → sProp 𝕄
  | .inl _, c, k => barPay k c
  | .inr (.inl t), c, _ => sendPay m ρ t c
  | .inr (.inr t), c, _ => recvPay m ρ t c

theorem amountOf_pos (i : CI) : 0 < amountOf i := by
  rcases i with _ | t | t
  · exact Nat.one_pos
  · exact N_pos t
  · exact N_pos t

def sched : Rounds.Schedule (GSem nD τ sig) (Fin 3) 𝕄 where
  duties g r := if r = 0 ∧ g.1.2 = .tc then (dec g.2).elim ∅ dutiesOf else ∅
  unitless _ := False
  amount g _ _ := (dec g.2).elim 1 amountOf
  payload g _ d := (dec g.2).elim iprop(emp) fun i => payOf m ρ i g.1.1 d
  amount_pos g _ _ _ := by
    rcases dec g.2 with _ | i
    · exact Nat.one_pos
    · exact amountOf_pos i

instance payOf_storable (i : CI) (c : Dev nD) (d : Fin 3) : BI.Storable (upEmb : UEmb _ 𝕄) (payOf m ρ i c d) := by
  rcases i with _ | t | t
  · show BI.Storable upEmb (barPay d c); unfold barPay; infer_instance
  · show BI.Storable upEmb (sendPay m ρ t c); unfold sendPay; infer_instance
  · show BI.Storable upEmb (recvPay m ρ t c); unfold recvPay; infer_instance

instance sched_payload_storable (g : GSem nD τ sig) (r : ℕ) (d : Fin 3) : BI.Storable (upEmb : UEmb _ 𝕄) ((sched m ρ).payload g r d) := by
  show BI.Storable upEmb ((dec g.2).elim iprop(emp) fun i => payOf m ρ i g.1.1 d)
  rcases dec g.2 with _ | i
  · show BI.Storable upEmb (iprop(emp) : sProp 𝕄); infer_instance
  · show BI.Storable upEmb (payOf m ρ i g.1.1 d); infer_instance

section Sched
variable (c : Dev nD) (i : CI)

theorem duties_cell : (sched m ρ).duties (cell c i) 0 = dutiesOf i := by
  dsimp only [sched]; rw [if_pos ⟨rfl, rfl⟩, dec_csem]; rfl
theorem duties_later (g : GSem nD τ sig) : ∀ r, 1 ≤ r → (sched m ρ).duties g r = ∅ :=
  fun r hr => if_neg fun h => by omega
theorem amount_cell (d : Fin 3) : (sched m ρ).amount (cell c i) 0 d = amountOf i := by
  show (dec (csem i)).elim 1 amountOf = _; rw [dec_csem]; rfl
theorem payload_cell (d : Fin 3) : (sched m ρ).payload (cell c i) 0 d = payOf m ρ i c d := by
  show ((dec (csem i)).elim iprop(emp) fun i => payOf m ρ i c d) = _; rw [dec_csem]; rfl

theorem expect_bar : (sched m ρ).expect (barCell c) 0 = 3 := by
  unfold Schedule.expect Schedule.amountOf
  rw [duties_cell, Finset.sum_congr rfl fun d _ => amount_cell m ρ c (.inl ()) d]; rfl
theorem expect_xfer (j : T ⊕ T) : (sched m ρ).expect (cell c (.inr j)) 0 = amountOf (.inr j) := by
  unfold Schedule.expect Schedule.amountOf
  rw [duties_cell]; exact (Finset.sum_singleton _ _).trans (amount_cell m ρ c _ 0)

/-- The rest of a transfer cell's round, no duty taken: its one payload. -/
theorem rest_xfer (j : T ⊕ T) :
    bigSep ((sched m ρ).duties (cell c (.inr j)) 0 \ ∅) (fun d => (sched m ρ).payload (cell c (.inr j)) 0 d) = payOf m ρ (.inr j) c 0 := by
  rw [Finset.sdiff_empty, duties_cell]; exact bigSep_singleton.trans (payload_cell m ρ c _ 0)
/-- The rest of the barrier cell's round: the destinations of all nine transfers. -/
theorem rest_bar :
    bigSep ((sched m ρ).duties (barCell c) 0 \ ∅) (fun d => (sched m ρ).payload (barCell c) 0 d) = bigSep Finset.univ fun t => landing (F := F) t c := by
  rw [Finset.sdiff_empty, duties_cell, bigSep_congr fun d _ => payload_cell m ρ c (.inl ()) d]
  rw [bigSep_fiberwise Finset.univ dir (fun t => landing (F := F) t c), show (Finset.univ : Finset T).image dir = Finset.univ from by decide]
  rfl
end Sched

/-! ## What a device owes, event by event -/

/-- The events by which a device pays other devices' cells: its three barrier signals (named by the duty they pay) and its
    nine transfers' landings. -/
abbrev Ev : Type := Fin 3 ⊕ T
def evCell (c : Dev nD) : Ev → GSem nD τ sig
  | .inl k => barCell (dv (opp k) c)
  | .inr t => recvCell t (peer t c)
def evAmt : Ev → ℕ := Sum.elim (fun _ => 1) N

/-- What device `c` owes while the events `l` are still to come, the first of the list the outermost summand. -/
def owed (c : Dev nD) : List Ev → CellTallies nD τ sig Unit
  | [] => 0
  | e :: l => owed c l + tallyAt (evCell c e) () (evAmt e)

/-- The program's order. -/
def evs : List Ev := [.inl 0, .inl 1, .inl 2, .inr (.inl 0), .inr (.inl 1), .inr (.inl 2), .inr (.inr 0), .inr (.inr 1), .inr (.inr 2),
  .inr (.inr 3), .inr (.inr 4), .inr (.inr 5)]
def O₀ (c : Dev nD) : CellTallies nD τ sig Unit := owed c evs

theorem owed_pos {c : Dev nD} {l : List Ev} {g : GSem nD τ sig} {u : Unit} (h : 0 < owed c l g u) : ∃ e ∈ l, g = evCell c e := by
  induction l with
  | nil => exact absurd h (Nat.lt_irrefl 0)
  | cons e l ih =>
    unfold owed at h
    rw [Pi.add_apply, Finsupp.add_apply, tallyAt_apply] at h
    by_cases he : g = evCell c e
    · exact ⟨e, List.mem_cons_self, he⟩
    · rw [if_neg (fun h' => he h'.1), Nat.add_zero] at h
      obtain ⟨e', hm, hg⟩ := ih h
      exact ⟨e', List.mem_cons_of_mem _ hm, hg⟩

/-! ## Levels -/

def L (g : GSem nD τ sig) : Finset Unit := if g.1.2 = .tc then {()} else ∅
/-- The barrier below every transfer, the own halves' transfers below the forwarded halves'; a send's cell, like the
    staging cells, below everything. -/
def lvOf : CI → ℕ
  | .inl _ => 1
  | .inr (.inl _) => 0
  | .inr (.inr (.inl _)) => 2
  | .inr (.inr (.inr k)) => if k.val < 4 then 2 else 3
def lv (g : GSem nD τ sig) (_ : Unit) : ℕ := (dec g.2).elim 0 lvOf
def evLv : Ev → ℕ := Sum.elim (fun _ => 1) (fun t => lvOf (.inr (.inr t)))

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) (u : Unit) : lv (cell c i) u = lvOf i := by
  show (dec (csem i)).elim 0 lvOf = _; rw [dec_csem]; rfl
theorem lv_ev (c : Dev nD) (e : Ev) (u : Unit) : lv (evCell c e) u = evLv e := by
  rcases e with k | t
  · exact lv_cell _ (.inl ()) u
  · exact lv_cell _ (.inr (.inr t)) u

/-- A device may wait on a cell below all the events still to come. -/
theorem mayWait (c : Dev nD) (sm : SemLoc sig) (l : List Ev) (n : ℕ) (hn : lv ((c : Thread nD τ), sm) () ≤ n) (hl : ∀ e ∈ l, n < evLv e) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by
      obtain ⟨e, -, rfl⟩ := owed_pos hg
      rcases e with k | t <;> exact Finset.mem_singleton_self _)
    (fun p hp => by rw [Finset.mem_singleton.mp hp]; exact hn)
    (fun g u hg => by
      obtain ⟨e, he, rfl⟩ := owed_pos hg
      rw [lv_ev]; exact hl e he)

end Cert.Moe

end
-- ==== Proof.Windows.lean ====
/-
  The WINDOWS of the two scratch buffers: `wg` is its eight halves, `cg` its four rows; which of them are a device's own and
  which the destinations of the transfers it receives; and what the kernel's stores, landings and loads make of a window at
  the final contents `wAll`, `cAll`.
-/
module

public import proofs.«01_k».proof.Proof.Protocol
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ) (ρ : Dev nD → PrngReg)

/-! ## Membership -/

theorem mem_half {b : Fin 8} {i : S16x256x512.Idx} : i ∈ (halfR b).set ↔ (i 0).val / 2 = b.val := by
  rw [Rect.mem_set_unit]
  constructor
  · intro h
    have h0 : 2 * b.val ≤ (i 0).val ∧ (i 0).val < 2 * b.val + 2 := h 0
    omega
  · intro h a
    match a with
    | 0 => show 2 * b.val ≤ (i 0).val ∧ (i 0).val < 2 * b.val + 2; omega
    | 1 => exact ⟨Nat.zero_le _, (Nat.zero_add 256).symm ▸ (i 1).isLt⟩
    | 2 => exact ⟨Nat.zero_le _, (Nat.zero_add 512).symm ▸ (i 2).isLt⟩

theorem mem_row {c : Dev nD} {i : S4x16.Idx} : i ∈ (rowR c).set ↔ (i 0).val = c.val := by
  rw [Rect.mem_set_unit]
  constructor
  · intro h
    have h0 : c.val ≤ (i 0).val ∧ (i 0).val < c.val + 1 := h 0
    omega
  · intro h a
    match a with
    | 0 => show c.val ≤ (i 0).val ∧ (i 0).val < c.val + 1; omega
    | 1 => exact ⟨Nat.zero_le _, (Nat.zero_add 16).symm ▸ (i 1).isLt⟩

/-- The rectangle of the kernel's store of its four experts. -/
theorem mem_own {c : Dev nD} {inb} {i : S16x256x512.Idx} :
    i ∈ (Rect.unit (s := S16x256x512) ![4 * c.val, 0, 0] S4x256x512.size inb).set ↔ i ∈ (halfR (lo c)).set ∪ (halfR (hi c)).set := by
  rw [Finset.mem_union, mem_half, mem_half, Rect.mem_set_unit]
  show _ ↔ (i 0).val / 2 = 2 * c.val ∨ (i 0).val / 2 = 2 * c.val + 1
  constructor
  · intro h
    have h0 : 4 * c.val ≤ (i 0).val ∧ (i 0).val < 4 * c.val + 4 := h 0
    omega
  · intro h a
    match a with
    | 0 => show 4 * c.val ≤ (i 0).val ∧ (i 0).val < 4 * c.val + 4; omega
    | 1 => exact ⟨Nat.zero_le _, (Nat.zero_add 256).symm ▸ (i 1).isLt⟩
    | 2 => exact ⟨Nat.zero_le _, (Nat.zero_add 512).symm ▸ (i 2).isLt⟩

theorem half_disjoint {b b' : Fin 8} (h : b ≠ b') : Disjoint (halfR b).set (halfR b').set :=
  Finset.disjoint_left.mpr fun i hi hi' => h (Fin.ext ((mem_half.mp hi).symm.trans (mem_half.mp hi')))
theorem row_disjoint {c c' : Dev nD} (h : c ≠ c') : Disjoint (rowR c).set (rowR c').set :=
  Finset.disjoint_left.mpr fun i hi hi' => h (Fin.ext ((mem_row.mp hi).symm.trans (mem_row.mp hi')))

/-- The half an element of `wg` lies in, the row an element of `cg` lies in. -/
def halfOf (i : S16x256x512.Idx) : Fin 8 := ⟨(i 0).val / 2, (Nat.div_lt_iff_lt_mul (by decide)).mpr (i 0).isLt⟩
def rowOf (i : S4x16.Idx) : Dev nD := ⟨(i 0).val, (i 0).isLt⟩
theorem mem_halfOf (i : S16x256x512.Idx) : i ∈ (halfR (halfOf i)).set := mem_half.mpr rfl
theorem mem_rowOf (i : S4x16.Idx) : i ∈ (rowR (rowOf i)).set := mem_row.mpr rfl

/-! ## A whole buffer is its windows -/

theorem halfPts_eq (d : Dev nD) (b : Fin 8) (q : PosShare TreeShare) (f : (cc0_scratch0 : Ref sig .tc).ty.Contents (Elt F)) :
    (halfPts d b q f : sProp 𝕄) = ((d : Thread nD τ).loc cc0_scratch0 ↦[(halfR b).set]{q} f) := by unfold halfPts; rw [halfM_set]
theorem rowPts_eq (d : Dev nD) (j : Dev nD) (q : PosShare TreeShare) (f : (cc0_scratch1 : Ref sig .tc).ty.Contents (Elt F)) :
    (rowPts d j q f : sProp 𝕄) = ((d : Thread nD τ).loc cc0_scratch1 ↦[(rowR j).set]{q} f) := by unfold rowPts; rw [rowM_set]

theorem whole_halves (d : Dev nD) (q : PosShare TreeShare) (f : (cc0_scratch0 : Ref sig .tc).ty.Contents (Elt F)) :
    ((d : Thread nD τ).loc cc0_scratch0 ↦{q} f : sProp 𝕄) = bigSep Finset.univ fun b => halfPts d b q f := by
  rw [bigSep_congr fun b _ => halfPts_eq d b q f]
  exact Ring.pointsTo_blocks (ℓ := (d : Thread nD τ).loc cc0_scratch0) (fun b => (halfR b).set) (fun b b' h => half_disjoint h)
    (Finset.eq_univ_iff_forall.mpr fun i => Finset.mem_biUnion.mpr ⟨halfOf i, Finset.mem_univ _, mem_halfOf i⟩) f

theorem whole_rows (d : Dev nD) (q : PosShare TreeShare) (f : (cc0_scratch1 : Ref sig .tc).ty.Contents (Elt F)) :
    ((d : Thread nD τ).loc cc0_scratch1 ↦{q} f : sProp 𝕄) = bigSep Finset.univ fun j => rowPts d j q f := by
  rw [bigSep_congr fun j _ => rowPts_eq d j q f]
  exact Ring.pointsTo_blocks (ℓ := (d : Thread nD τ).loc cc0_scratch1) (fun j => (rowR j).set) (fun b b' h => row_disjoint h)
    (Finset.eq_univ_iff_forall.mpr fun i => Finset.mem_biUnion.mpr ⟨rowOf i, Finset.mem_univ _, mem_rowOf i⟩) f

/-- The eight halves from device `c`'s point of view: its own two, and the six its incoming transfers write. -/
theorem halves_around (c : Dev nD) (Φ : Fin 8 → sProp 𝕄) :
    bigSep Finset.univ Φ = iprop(Φ (lo c) ∗ Φ (hi c) ∗ bigSep Finset.univ fun k : Fin 6 => Φ (half k (src (.inr k) c))) := by
  rw [bigSep_univ_eq_bigSepL [lo c, hi c, half 0 (src (.inr 0) c), half 1 (src (.inr 1) c), half 2 (src (.inr 2) c), half 3 (src (.inr 3) c),
      half 4 (src (.inr 4) c), half 5 (src (.inr 5) c)] (by revert c; decide) (by revert c; decide),
    bigSep_univ_eq_bigSepL [0, 1, 2, 3, 4, 5] (by decide) (by decide)]
  rfl

theorem rows_around (c : Dev nD) (Φ : Dev nD → sProp 𝕄) :
    bigSep Finset.univ Φ = iprop(Φ c ∗ bigSep Finset.univ fun k : Fin 3 => Φ (src (.inl k) c)) := by
  rw [bigSep_univ_eq_bigSepL [c, src (.inl 0) c, src (.inl 1) c, src (.inl 2) c] (by revert c; decide) (by revert c; decide),
    bigSep_univ_eq_bigSepL [0, 1, 2] (by decide) (by decide)]
  rfl

/-! ## Shares -/

theorem half_share (d : Dev nD) (b : Fin 8) (q : PosShare TreeShare) (f : (cc0_scratch0 : Ref sig .tc).ty.Contents (Elt F)) :
    (halfPts d b q f : sProp 𝕄) ⊣⊢ iprop(halfPts d b q.left f ∗ halfPts d b q.right f) :=
  pointsTo_share (PosShare.mem_left_op_right q)
theorem row_share (d : Dev nD) (j : Dev nD) (q : PosShare TreeShare) (f : (cc0_scratch1 : Ref sig .tc).ty.Contents (Elt F)) :
    (rowPts d j q f : sProp 𝕄) ⊣⊢ iprop(rowPts d j q.left f ∗ rowPts d j q.right f) :=
  pointsTo_share (PosShare.mem_left_op_right q)

/-! ## Landings -/

/-- A transfer of a half's window leaves the final contents at its destination. -/
theorem half_landed (d : Dev nD) (b : Fin 8) (q : PosShare TreeShare) (fd : (cc0_scratch0 : Ref sig .tc).ty.Contents (Elt F)) :
    ((halfM b).view.loc (d : Thread nD τ) ↦[(halfM b).view.set]{q} (halfM b).view.write (Elt F) fd ((halfM b).view.read (Elt F) (wAll m ρ)) Finset.univ : sProp 𝕄)
      = halfPts d b q (wAll m ρ) := by
  unfold halfPts
  rw [View.write_read_eq_piecewise]
  exact pointsTo_congr fun i hi => Finset.piecewise_eq_of_mem _ _ _ hi
theorem row_landed (d : Dev nD) (j : Dev nD) (q : PosShare TreeShare) (fd : (cc0_scratch1 : Ref sig .tc).ty.Contents (Elt F)) :
    ((rowM j).view.loc (d : Thread nD τ) ↦[(rowM j).view.set]{q} (rowM j).view.write (Elt F) fd ((rowM j).view.read (Elt F) (cAll m ρ)) Finset.univ : sProp 𝕄)
      = rowPts d j q (cAll m ρ) := by
  unfold rowPts
  rw [View.write_read_eq_piecewise]
  exact pointsTo_congr fun i hi => Finset.piecewise_eq_of_mem _ _ _ hi

/-! ## Stores -/

/-- The store of device `c`'s four experts, on the two windows it covers. -/
theorem own_stored (c : Dev nD) {off : Fin 3 → Nat} (hoff : off = ![4 * c.val, 0, 0]) (inb) (f : (cc0_scratch0 : Ref sig .tc).ty.Contents (Elt F))
    {i : S16x256x512.Idx} (hi : i ∈ (halfR (lo c)).set ∪ (halfR (hi c)).set) :
    (wM.access (Rect.unit (s := S16x256x512) off S4x256x512.size inb)).write (Elt F) f (k0_pay3 (wstg m ρ c)) Finset.univ i = wAll m ρ i := by
  subst hoff
  have hm := mem_own (inb := inb) |>.mpr hi
  rw [← Rect.map_emb_univ, Finset.mem_map] at hm
  obtain ⟨x, -, rfl⟩ := hm
  refine (View.write_emb_of_mem (v := wM.access (Rect.unit (s := S16x256x512) ![4 * c.val, 0, 0] S4x256x512.size inb)) (Val := Elt F) f
    (k0_pay3 (wstg m ρ c)) (M := Finset.univ) (x := x) (Finset.mem_univ x)).trans ?_
  show k0_pay3 (wstg m ρ c) x = k0_pay3 (wstg m ρ _) _
  have h0 : ((Rect.unit (s := S16x256x512) ![4 * c.val, 0, 0] S4x256x512.size inb).emb x 0).val = 4 * c.val + (x 0).val := by
    show 4 * c.val + 1 * (x 0).val = _; omega
  have hx : (x 0).val < 4 := (x 0).isLt
  congr 1
  · congr 1; exact Fin.ext (by show c.val = _ / 4; rw [h0]; omega)
  · refine (eq_ix3 x).trans ?_
    congr 1
    · exact Fin.ext (by show (x 0).val = _ % 4; rw [h0]; omega)
    · exact Fin.ext (by show (x 1).val = 0 + 1 * (x 1).val; omega)
    · exact Fin.ext (by show (x 2).val = 0 + 1 * (x 2).val; omega)

/-- The store of device `c`'s counts, on its row. -/
theorem row_stored (c : Dev nD) {off : Fin 2 → Nat} (hoff : off = ![c.val, 0]) (inb) (f : (cc0_scratch1 : Ref sig .tc).ty.Contents (Elt F))
    {i : S4x16.Idx} (hi : i ∈ (rowR c).set) :
    (cM.access (Rect.unit (s := S4x16) off S1x16.size inb)).write (Elt F) f (k0_pay2 (rstg m ρ c)) Finset.univ i = cAll m ρ i := by
  subst hoff
  rw [← Rect.map_emb_univ, Finset.mem_map] at hi
  obtain ⟨x, -, rfl⟩ := hi
  refine (View.write_emb_of_mem (v := cM.access (Rect.unit (s := S4x16) ![c.val, 0] S1x16.size inb)) (Val := Elt F) f
    (k0_pay2 (rstg m ρ c)) (M := Finset.univ) (x := x) (Finset.mem_univ x)).trans ?_
  show k0_pay2 (rstg m ρ c) x = k0_pay2 (rstg m ρ _) _
  have hx : (x 0).val < 1 := (x 0).isLt
  congr 1
  · congr 1; exact Fin.ext (by show c.val = c.val + 1 * (x 0).val; omega)
  · refine (eq_ix2 x).trans ?_
    congr 1
    · exact Fin.ext (by show (x 0).val = 0; omega)
    · exact Fin.ext (by show (x 1).val = 0 + 1 * (x 1).val; omega)

/-! ## Loads -/

/-- The weights of expert `e`, as a load of its rows of `wg` reads them. -/
def wEx (e : Fin 16) : Vec F S1x256x512 .bf16 := fun x => wAll m ρ (ix3 e (x 1) (x 2) : S16x256x512.Idx)

theorem read_expert (e : Fin 16) {off : Fin 3 → Nat} (hoff : off = ![e.val, 0, 0]) (inb) :
    wM.view.readAt (Elt F) (Rect.unit (s := S16x256x512) off S1x256x512.size inb).toLoadRect (wAll m ρ) = wEx m ρ e := by
  subst hoff
  funext x
  show wAll m ρ ((Rect.unit (s := S16x256x512) ![e.val, 0, 0] S1x256x512.size inb).emb x) = wAll m ρ _
  have hx : (x 0).val < 1 := (x 0).isLt
  refine congrArg (wAll m ρ) ((eq_ix3 (n0 := 16) (n1 := 256) (n2 := 512) _).trans ?_)
  congr 1
  · exact Fin.ext (by show e.val + 1 * (x 0).val = e.val; omega)
  · exact Fin.ext (by show 0 + 1 * (x 1).val = (x 1).val; omega)
  · exact Fin.ext (by show 0 + 1 * (x 2).val = (x 2).val; omega)

theorem expert_subset (e : Fin 16) (b : Fin 8) (hb : e.val / 2 = b.val) {off : Fin 3 → Nat} (hoff : off = ![e.val, 0, 0]) (inb) :
    wM.view.setOn (Rect.unit (s := S16x256x512) off S1x256x512.size inb).toLoadRect.set ⊆ (halfM b).view.set := by
  subst hoff
  rw [halfM_set]
  intro i hi
  rw [View.setOn, Finset.mem_map] at hi
  obtain ⟨j, hj, rfl⟩ := hi
  have h0 : e.val ≤ (j 0).val ∧ (j 0).val < e.val + 1 := (Rect.mem_set_unit.mp hj) 0
  exact mem_half.mpr (by show (j 0).val / 2 = _; omega)

/-! ## The slices the program forms are the windows -/

theorem half_slice {off : Fin 3 → Nat} {b : Fin 8} (h : off = ![2 * b.val, 0, 0]) (inb) :
    wM.slice (Rect.unit (s := S16x256x512) off S2x256x512.size inb) (fun _ => rfl) = halfM b := by subst h; rfl
theorem row_slice {off : Fin 2 → Nat} {j : Dev nD} (h : off = ![j.val, 0]) (inb) :
    cM.slice (Rect.unit (s := S4x16) off S1x16.size inb) (fun _ => rfl) = rowM j := by subst h; rfl

end Cert.Moe

end
-- ==== Proof.Steps.lean ====
/-
  THE STEPS of the exchange: one rule per kind of effect, each stated once for every device, direction, transfer and expert.
  A step takes what the protocol says the effect needs and hands back what it says the effect gives; the program's own
  spelling of a window, a semaphore or a device enters as an equation.
-/
module

public import proofs.«01_k».proof.Proof.Windows

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-- The weakest precondition of a piece of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use -/

/-- Every cell's invariant and that every cell is at its one round. -/
def records : sProp 𝕄 :=
  iprop((bigSep Finset.univ fun ci : Dev nD × CI => cellInv ER (sched m ρ) (K ci) (cell ci.1 ci.2))
    ∗ (bigSep Finset.univ fun ci : Dev nD × CI => reached ER (cell ci.1 ci.2) 0))
def env : sProp 𝕄 := iprop(records m ρ K ∗ levAts L lv)

instance records_persistent : BI.Persistent (records m ρ K) := by unfold records; infer_instance
instance env_persistent : BI.Persistent (env m ρ K) := by unfold env; infer_instance

theorem env_inv (c : Dev nD) (i : CI) : env m ρ K ⊢ cellInv ER (sched m ρ) (K (c, i)) (cell c i) := by
  unfold env records
  iintro ⟨⟨H, -⟩, -⟩
  iapply (show (bigSep Finset.univ fun ci : Dev nD × CI => cellInv ER (sched m ρ) (K ci) (cell ci.1 ci.2) : sProp 𝕄) ⊢ cellInv ER (sched m ρ) (K (c, i)) (cell c i)
    from bigSep_elim (Finset.mem_univ (c, i))) $$ H
theorem env_reached (c : Dev nD) (i : CI) : env m ρ K ⊢ reached ER (cell c i) 0 := by
  unfold env records
  iintro ⟨⟨-, H⟩, -⟩
  iapply (show (bigSep Finset.univ fun ci : Dev nD × CI => (reached ER (cell ci.1 ci.2) 0 : sProp 𝕄)) ⊢ reached ER (cell c i) 0
    from bigSep_elim (Finset.mem_univ (c, i))) $$ H
theorem env_lev : env m ρ K ⊢ (levAts L lv : sProp 𝕄) := by
  unfold env
  iintro ⟨-, H⟩
  iexact H

/-- What device `c` still owes, whatever it has waited on. -/
def Ow (c : Dev nD) (l : List Ev) : sProp 𝕄 := iprop(∃ W : Waits sig Unit, owes (c : Thread nD τ) (owed c l) W)

/-! ## A device's stakes -/

/-- For a transfer still to be sent: the right to credit its two semaphores, and where its send semaphore stands. -/
def sendKit (t : T) (c : Dev nD) : sProp 𝕄 :=
  iprop(dutyTok ER (sendCell t c) 0 0 ∗ dutyTok ER (recvCell t (peer t c)) 0 0 ∗ atPos ER (sendCell t c) 0 ∅ 0)
/-- For a transfer sent: the credit its wait uses up. -/
def sentKit (t : T) (c : Dev nD) : sProp 𝕄 := iprop(cred (tallyAt (sendCell t c) () (N t)) ∗ atPos ER (sendCell t c) 0 ∅ 0)
/-- For a transfer to be received. -/
def recvKit (t : T) (c : Dev nD) : sProp 𝕄 := iprop(cred (tallyAt (recvCell t c) () (N t)) ∗ atPos ER (recvCell t c) 0 ∅ 0)
/-- For the barrier's wait. -/
def barKit (c : Dev nD) : sProp 𝕄 := iprop(cred (tallyAt (barCell c) () 3) ∗ atPos ER (barCell c) 0 ∅ 0)
/-- For a barrier signal: the right to it, and the windows it gives up. -/
def sigKit (k : Fin 3) (c : Dev nD) : sProp 𝕄 := iprop(dutyTok ER (barCell (dv (opp k) c)) 0 k ∗ barPay k (dv (opp k) c))

/-! ## The cells, as the effects spell them -/

theorem bar_mem (k : Fin 3) (c : Dev nD) : k ∈ (sched m ρ).duties ((c : Thread nD τ), SemLoc.reg barS) 0 := by
  show k ∈ (sched m ρ).duties (barCell c) 0
  rw [duties_cell]; exact Finset.mem_univ _
theorem xfer_mem (j : T ⊕ T) (c : Dev nD) : 0 ∈ (sched m ρ).duties ((c : Thread nD τ), osem j) 0 := by
  show 0 ∈ (sched m ρ).duties (cell c (.inr j)) 0
  rw [duties_cell]; exact Finset.mem_singleton_self _
theorem xfer_amount (j : T ⊕ T) (c : Dev nD) : (sched m ρ).amount ((c : Thread nD τ), osem j) 0 0 = amountOf (.inr j) := amount_cell m ρ c (.inr j) 0
theorem xfer_pay (j : T ⊕ T) (c : Dev nD) : (sched m ρ).payload ((c : Thread nD τ), osem j) 0 0 = payOf m ρ (.inr j) c 0 := payload_cell m ρ c (.inr j) 0

theorem xfer_rest (j : T ⊕ T) (c : Dev nD) :
    bigSep ((sched m ρ).duties ((c : Thread nD τ), osem j) 0 \ ∅) (fun d => (sched m ρ).payload ((c : Thread nD τ), osem j) 0 d) = payOf m ρ (.inr j) c 0 :=
  rest_xfer m ρ c j
theorem bar_pay (k : Fin 3) (c : Dev nD) : (sched m ρ).payload ((c : Thread nD τ), SemLoc.reg barS) 0 k = barPay k c := payload_cell m ρ c (.inl ()) k
theorem bar_rest (c : Dev nD) :
    bigSep ((sched m ρ).duties ((c : Thread nD τ), SemLoc.reg barS) 0 \ ∅) (fun d => (sched m ρ).payload ((c : Thread nD τ), SemLoc.reg barS) 0 d)
      = bigSep Finset.univ fun t => landing (F := F) t c :=
  rest_bar m ρ c

/-! ## The barrier -/

theorem step_signal (k : Fin 3) (c n : Dev nD) (hn : n = dv (opp k) c) (l : List Ev) {α : Type} {Q : α → sProp 𝕄}
    {p : PUnit → Prog (TpuEff nD τ sig (Elt F) Λ₀ .tc) α} :
    iprop(env m ρ K ∗ Ow c (.inl k :: l) ∗ sigKit k c)
      ⊢ iprop((Ow c l -∗ WP c (p ⟨⟩) Q) -∗ WP c (.op (.semSignal (n : Thread nD τ) barS (1#32 : BitVec 32).toInt) p) Q) := by
  subst hn
  unfold Ow sigKit
  iintro ⟨#He, ⟨%W, HO⟩, Ht, Hp⟩
  iintro Hk
  iapply (Rounds.wp_signal 𝒱₀ ER (sched m ρ) (c : Thread nD τ) none (dst := (dv (opp k) c : Thread nD τ)) (κ := K (dv (opp k) c, .inl ()))
      (d := k) (bar_mem m ρ k _) ((amount_cell m ρ _ (.inl ()) k).trans (by decide)) () (owed c l) rfl)
    $$ [HO Ht Hp]
  · isplitr; · iapply (env_inv m ρ K (dv (opp k) c) (.inl ())); iexact He
    isplitl [HO]; · iexact HO
    isplitl [Ht]; · iexact Ht
    isplitl [Hp]; · rw [bar_pay]; iexact Hp
    iapply (env_reached m ρ K (dv (opp k) c) (.inl ())); iexact He
  iintro HO
  iapply Hk
  iexists W; iexact HO

theorem step_barrier (c : Dev nD) (l : List Ev) (hl : ∀ e ∈ l, 1 < evLv e) {α : Type} {Q : α → sProp 𝕄}
    {p : PUnit → Prog (TpuEff nD τ sig (Elt F) Λ₀ .tc) α} :
    iprop(env m ρ K ∗ Ow c l ∗ barKit c)
      ⊢ iprop(((Ow c l ∗ semVal (barCell c) 0 ∗ bigSep Finset.univ fun t => landing (F := F) t c) -∗ WP c (p ⟨⟩) Q)
          -∗ WP c (.op (.semWait barS (3#32 : BitVec 32).toInt) p) Q) := by
  unfold Ow barKit
  iintro ⟨#He, ⟨%W, HO⟩, Hc, Hat⟩
  iintro Hk
  iapply (Rounds.wp_wait_rest_token 𝒱₀ ER (sched m ρ) (c : Thread nD τ) none (κ := K (c, .inl ()))
      (wpE_semWait_eq 𝒱₀ (c : Thread nD τ) none Set.univ) (Set.mem_univ _) () (O := owed c l) (W := W) (R := 0) (m := 0) (T := ∅)
      ((expect_bar m ρ c).symm ▸ (by decide))) $$ [Hc HO Hat]
  · isplitr; · iapply (env_inv m ρ K c (.inl ())); iexact He
    isplitl [Hc]; · iexact Hc
    isplitl [HO]; · iexact HO
    isplitr
    · iapply (mayWait c (.reg barS) l 1 (le_of_eq (lv_cell c (.inl ()) ())) hl); iapply (env_lev m ρ K); iexact He
    iexact Hat
  iintro ⟨HO, Hat, -, Hpay⟩
  ihave Hp := (Entails.of_eq (bar_rest m ρ c)) $$ Hpay
  imod (Rounds.cell_close ER (sched m ρ) (Set.mem_univ (K (c, .inl ()))) (fun h => h) (R := 0 + 1) (duties_later m ρ (barCell c))) $$ [Hat] with Hz
  · isplitr; · iapply (env_inv m ρ K c (.inl ())); iexact He
    iexact Hat
  iapply Hk
  isplitl [HO]; · iexists _; iexact HO
  isplitl [Hz] <;> iassumption

/-! ## The transfers -/

/-- A transfer, of whatever window: its source's share becomes the send's payload, its destination the receive's. -/
theorem step_send (t : T) (c n : Dev nD) (hn : n = peer t c) {s : Shape} {e : EltTy} {M : Memref sig .tc .vmem s e}
    {sS sR : DmaSem sig} (hS : sS = sendS t) (hR : sR = recvS t) (hN : M.view.amount (.dma (recvS t)) = N t)
    (fs : Buf (Elt F) (M.view.loc (c : Thread nD τ)))
    (hpay₁ : (M.view.loc (c : Thread nD τ) ↦[M.view.set]{shr t} fs : sProp 𝕄) ⊢ sendPay m ρ t c)
    (hpay₂ : ∀ fd : Buf (Elt F) (M.view.loc (peer t c : Thread nD τ)),
      (M.view.loc (peer t c : Thread nD τ) ↦[M.view.set]{fullShare} M.view.write (Elt F) fd (M.view.read (Elt F) fs) Finset.univ : sProp 𝕄) ⊢ recvPay m ρ t (peer t c))
    (l : List Ev)
    {hsc : (M : Memref sig (Dev.tc n : Thread nD τ).2.kind .vmem s e).view.ref.isScScratch = false}
    {hsrc : M.view.WordExact} {hdst : M.view.WordExact}
    {hsem : DmaTarget.Typed .vmem (.dma sR) (.remote (Dev.tc n : Thread nD τ) (M : Memref sig (Dev.tc n : Thread nD τ).2.kind .vmem s e) (.dma sS) hsc)}
    {α : Type} {Q : α → sProp 𝕄} {p : PUnit → Prog (TpuEff nD τ sig (Elt F) Λ₀ .tc) α} :
    iprop(env m ρ K ∗ Ow c (.inr t :: l) ∗ sendKit t c ∗ (∃ fd, M.view.loc (peer t c : Thread nD τ) ↦[M.view.set]{fullShare} fd)
        ∗ (M.view.loc (c : Thread nD τ) ↦[M.view.set]{shr t} fs))
      ⊢ iprop(((Ow c l ∗ sentKit t c) -∗ WP c (p ⟨⟩) Q)
          -∗ WP c (.op (.enqueueDma M (.remote (Dev.tc n : Thread nD τ) M (.dma sS) hsc) (.dma sR) hsrc hdst hsem) p) Q) := by
  subst hn hS hR
  unfold Ow sendKit sentKit
  iintro ⟨#He, ⟨%W, HO⟩, ⟨Hts, Htr, Hat⟩, ⟨%f, Hd⟩, Hs⟩
  iintro Hk
  iapply (Rounds.wp_send_pointsTo 𝒱₀ ER (sched m ρ) (c : Thread nD τ) none (κ₁ := K (c, .inr (.inl t))) (κ₂ := K (peer t c, .inr (.inr t)))
    (r₁ := 0) (r₂ := 0) (d₁ := 0) (d₂ := 0) (fs := fs) (fd := f)
    (xfer_mem m ρ (.inl t) c) (xfer_mem m ρ (.inr t) (peer t c))
    () () (N t) hN (xfer_amount m ρ (.inl t) c) (xfer_amount m ρ (.inr t) (peer t c)) (owed c l) rfl (W := W)
    (hpay₁.trans (Entails.of_eq (xfer_pay m ρ (.inl t) c).symm))
    ((hpay₂ f).trans (Entails.of_eq (xfer_pay m ρ (.inr t) (peer t c)).symm))) $$ [HO Hts Htr Hd Hs]
  · isplitr; · iapply (env_inv m ρ K c (.inr (.inl t))); iexact He
    isplitr; · iapply (env_inv m ρ K (peer t c) (.inr (.inr t))); iexact He
    isplitl [Hs]; · iexact Hs
    isplitl [Hd]; · iexact Hd
    isplitl [HO]; · iexact HO
    isplitl [Hts]; · iexact Hts
    isplitr; · iapply (env_reached m ρ K c (.inr (.inl t))); iexact He
    isplitl [Htr]; · iexact Htr
    iapply (env_reached m ρ K (peer t c) (.inr (.inr t))); iexact He
  iintro ⟨Hc, HO⟩
  iapply Hk
  isplitl [HO]; · iexists W; iexact HO
  isplitl [Hc]; · iexact Hc
  iexact Hat

theorem row_amount (c : Dev nD) (k : Fin 3) : (rowM c).view.amount (.dma (recvS (.inl k))) = N (.inl k) := rfl
theorem half_amount (b : Fin 8) (k : Fin 6) : (halfM b).view.amount (.dma (recvS (.inr k))) = N (.inr k) := rfl

/-- A count transfer: a share of `c`'s row of `cg`. -/
theorem step_send_row (k : Fin 3) (c n : Dev nD) (hn : n = peer (.inl k) c) {M : Memref sig .tc .vmem S1x16 .f32} (hM : M = rowM c)
    {sS sR : DmaSem sig} (hS : sS = sendS (.inl k)) (hR : sR = recvS (.inl k)) (l : List Ev)
    {hsc : (M : Memref sig (Dev.tc n : Thread nD τ).2.kind .vmem S1x16 .f32).view.ref.isScScratch = false}
    {hsrc : M.view.WordExact} {hdst : M.view.WordExact}
    {hsem : DmaTarget.Typed .vmem (.dma sR) (.remote (Dev.tc n : Thread nD τ) (M : Memref sig (Dev.tc n : Thread nD τ).2.kind .vmem S1x16 .f32) (.dma sS) hsc)}
    {α : Type} {Q : α → sProp 𝕄} {p : PUnit → Prog (TpuEff nD τ sig (Elt F) Λ₀ .tc) α} :
    iprop(env m ρ K ∗ Ow c (.inr (.inl k) :: l) ∗ sendKit (.inl k) c ∗ landing (.inl k) c ∗ rowPts c c (shr (.inl k)) (cAll m ρ))
      ⊢ iprop(((Ow c l ∗ sentKit (.inl k) c) -∗ WP c (p ⟨⟩) Q)
          -∗ WP c (.op (.enqueueDma M (.remote (Dev.tc n : Thread nD τ) M (.dma sS) hsc) (.dma sR) hsrc hdst hsem) p) Q) := by
  subst hM
  unfold landing rowPts
  exact step_send m ρ K (.inl k) c n hn hS hR (row_amount c k) (cAll m ρ) (BI.Entails.refl _)
    (fun fd => by unfold recvPay winPts; rw [src_peer]; exact Entails.of_eq (row_landed m ρ (peer (.inl k) c) c fullShare fd)) l

/-- A weight transfer: a share of one half's window of `wg`. -/
theorem step_send_half (k : Fin 6) (c n : Dev nD) (hn : n = peer (.inr k) c) (b : Fin 8) (hb : half k c = b) {M : Memref sig .tc .vmem S2x256x512 .bf16} (hM : M = halfM b)
    {sS sR : DmaSem sig} (hS : sS = sendS (.inr k)) (hR : sR = recvS (.inr k)) (l : List Ev)
    {hsc : (M : Memref sig (Dev.tc n : Thread nD τ).2.kind .vmem S2x256x512 .bf16).view.ref.isScScratch = false}
    {hsrc : M.view.WordExact} {hdst : M.view.WordExact}
    {hsem : DmaTarget.Typed .vmem (.dma sR) (.remote (Dev.tc n : Thread nD τ) (M : Memref sig (Dev.tc n : Thread nD τ).2.kind .vmem S2x256x512 .bf16) (.dma sS) hsc)}
    {α : Type} {Q : α → sProp 𝕄} {p : PUnit → Prog (TpuEff nD τ sig (Elt F) Λ₀ .tc) α} :
    iprop(env m ρ K ∗ Ow c (.inr (.inr k) :: l) ∗ sendKit (.inr k) c ∗ landing (.inr k) c ∗ halfPts c b (shr (.inr k)) (wAll m ρ))
      ⊢ iprop(((Ow c l ∗ sentKit (.inr k) c) -∗ WP c (p ⟨⟩) Q)
          -∗ WP c (.op (.enqueueDma M (.remote (Dev.tc n : Thread nD τ) M (.dma sS) hsc) (.dma sR) hsrc hdst hsem) p) Q) := by
  subst hM hb
  unfold landing halfPts
  exact step_send m ρ K (.inr k) c n hn hS hR (half_amount (half k c) k) (wAll m ρ) (BI.Entails.refl _)
    (fun fd => by unfold recvPay winPts; rw [src_peer]; exact Entails.of_eq (half_landed m ρ (peer (.inr k) c) (half k c) fullShare fd)) l

/-! ## The waits on transfers -/

/-- A wait on a transfer's semaphore: its payload, and the semaphore at rest for good. -/
theorem step_wait (j : T ⊕ T) (c : Dev nD) {sm : DmaSem sig} (hsm : SemLoc.dma sm = osem j) {sp : Space} {s : Shape} {e : EltTy}
    {src dst : Memref sig .tc sp s e} (hN : dst.view.dmaCredit = amountOf (.inr j)) (l : List Ev) (hl : ∀ e ∈ l, lvOf (.inr j) < evLv e)
    {hsrc : src.view.WordExact} {hdst : dst.view.WordExact} {α : Type} {Q : α → sProp 𝕄} {p : PUnit → Prog (TpuEff nD τ sig (Elt F) Λ₀ .tc) α} :
    iprop(env m ρ K ∗ Ow c l ∗ cred (tallyAt (cell c (.inr j)) () (amountOf (.inr j))) ∗ atPos ER (cell c (.inr j)) 0 ∅ 0)
      ⊢ iprop(((Ow c l ∗ payOf m ρ (.inr j) c 0 ∗ semVal (cell c (.inr j)) 0) -∗ WP c (p ⟨⟩) Q)
          -∗ WP c (.op (.waitDma2 sm src dst hsrc hdst) p) Q) := by
  unfold Ow
  iintro ⟨#He, ⟨%W, HO⟩, Hc, Hat⟩
  iintro Hk
  iapply (Rounds.wp_wait_rest_token 𝒱₀ ER (sched m ρ) (c : Thread nD τ) none (κ := K (c, .inr j)) (sm := SemLoc.dma sm)
      (wpE_waitDma2_eq 𝒱₀ (c : Thread nD τ) none Set.univ) (Set.mem_univ _) () (O := owed c l) (W := W) (R := 0) (m := 0) (T := ∅)
      (by rw [Nat.zero_add, hN, hsm]; exact (expect_xfer m ρ c j).symm)) $$ [Hc HO Hat]
  · rw [hsm, hN]
    isplitr; · iapply (env_inv m ρ K c (.inr j)); iexact He
    isplitl [Hc]; · iexact Hc
    isplitl [HO]; · iexact HO
    isplitr
    · iapply (mayWait c (osem j) l (lvOf (.inr j)) (le_of_eq (lv_cell c (.inr j) ())) hl); iapply (env_lev m ρ K); iexact He
    iexact Hat
  rw [hsm]
  iintro ⟨HO, Hat, -, Hpay⟩
  ihave Hp := (Entails.of_eq (xfer_rest m ρ j c)) $$ Hpay
  imod (Rounds.cell_close ER (sched m ρ) (Set.mem_univ (K (c, .inr j))) (fun h => h) (R := 0 + 1) (duties_later m ρ (cell c (.inr j)))) $$ [Hat] with Hz
  · isplitr; · iapply (env_inv m ρ K c (.inr j)); iexact He
    iexact Hat
  iapply Hk
  isplitl [HO]; · iexists _; iexact HO
  isplitl [Hp] <;> iassumption

/-- The wait for a transfer to land: the window it filled. -/
theorem step_wait_recv (t : T) (c : Dev nD) {sm : DmaSem sig} (hsm : sm = recvS t) {sp : Space} {s : Shape} {e : EltTy}
    {src dst : Memref sig .tc sp s e} (hN : dst.view.dmaCredit = N t) (l : List Ev) (hl : ∀ e ∈ l, lvOf (.inr (.inr t)) < evLv e)
    {hsrc : src.view.WordExact} {hdst : dst.view.WordExact} {α : Type} {Q : α → sProp 𝕄} {p : PUnit → Prog (TpuEff nD τ sig (Elt F) Λ₀ .tc) α} :
    iprop(env m ρ K ∗ Ow c l ∗ recvKit t c)
      ⊢ iprop(((Ow c l ∗ winPts m ρ t (Moe.src t c) c fullShare ∗ semVal (recvCell t c) 0) -∗ WP c (p ⟨⟩) Q)
          -∗ WP c (.op (.waitDma2 sm src dst hsrc hdst) p) Q) :=
  step_wait m ρ K (.inr t) c (congrArg SemLoc.dma hsm) hN l hl

/-- The wait for a transfer to have left: the share of its source. -/
theorem step_wait_send (t : T) (c : Dev nD) {sm : DmaSem sig} (hsm : sm = sendS t) {sp : Space} {s : Shape} {e : EltTy}
    {src dst : Memref sig .tc sp s e} (hN : dst.view.dmaCredit = N t)
    {hsrc : src.view.WordExact} {hdst : dst.view.WordExact} {α : Type} {Q : α → sProp 𝕄} {p : PUnit → Prog (TpuEff nD τ sig (Elt F) Λ₀ .tc) α} :
    iprop(env m ρ K ∗ Ow c [] ∗ sentKit t c)
      ⊢ iprop(((Ow c [] ∗ winPts m ρ t c c (shr t) ∗ semVal (sendCell t c) 0) -∗ WP c (p ⟨⟩) Q)
          -∗ WP c (.op (.waitDma2 sm src dst hsrc hdst) p) Q) :=
  step_wait m ρ K (.inl t) c (congrArg SemLoc.dma hsm) hN [] (fun e he => absurd he List.not_mem_nil)

/-- The two, for a count transfer and for a weight transfer: `c`'s row at its neighbours, half `b` at its own. -/
theorem step_recv_half (k : Fin 6) (c : Dev nD) (b : Fin 8) (hb : half k (Moe.src (.inr k) c) = b) {sm : DmaSem sig} (hsm : sm = recvS (.inr k))
    {src dst : Memref sig .tc .vmem S2x256x512 .bf16} (hN : dst.view.dmaCredit = N (.inr k)) (l : List Ev) (hl : ∀ e ∈ l, lvOf (.inr (.inr (.inr k))) < evLv e)
    {hsrc : src.view.WordExact} {hdst : dst.view.WordExact} {α : Type} {Q : α → sProp 𝕄} {p : PUnit → Prog (TpuEff nD τ sig (Elt F) Λ₀ .tc) α} :
    iprop(env m ρ K ∗ Ow c l ∗ recvKit (.inr k) c)
      ⊢ iprop(((Ow c l ∗ halfPts c b fullShare (wAll m ρ) ∗ semVal (recvCell (.inr k) c) 0) -∗ WP c (p ⟨⟩) Q)
          -∗ WP c (.op (.waitDma2 sm src dst hsrc hdst) p) Q) := by
  subst hb
  exact step_wait_recv m ρ K (.inr k) c hsm hN l hl
theorem step_sent_half (k : Fin 6) (c : Dev nD) (b : Fin 8) (hb : half k c = b) {sm : DmaSem sig} (hsm : sm = sendS (.inr k))
    {src dst : Memref sig .tc .vmem S2x256x512 .bf16} (hN : dst.view.dmaCredit = N (.inr k))
    {hsrc : src.view.WordExact} {hdst : dst.view.WordExact} {α : Type} {Q : α → sProp 𝕄} {p : PUnit → Prog (TpuEff nD τ sig (Elt F) Λ₀ .tc) α} :
    iprop(env m ρ K ∗ Ow c [] ∗ sentKit (.inr k) c)
      ⊢ iprop(((Ow c [] ∗ halfPts c b (shr (.inr k)) (wAll m ρ) ∗ semVal (sendCell (.inr k) c) 0) -∗ WP c (p ⟨⟩) Q)
          -∗ WP c (.op (.waitDma2 sm src dst hsrc hdst) p) Q) := by
  subst hb
  exact step_wait_send m ρ K (.inr k) c hsm hN
theorem step_recv_row (k : Fin 3) (c : Dev nD) {sm : DmaSem sig} (hsm : sm = recvS (.inl k))
    {src dst : Memref sig .tc .vmem S1x16 .f32} (hN : dst.view.dmaCredit = N (.inl k)) (l : List Ev) (hl : ∀ e ∈ l, lvOf (.inr (.inr (.inl k))) < evLv e)
    {hsrc : src.view.WordExact} {hdst : dst.view.WordExact} {α : Type} {Q : α → sProp 𝕄} {p : PUnit → Prog (TpuEff nD τ sig (Elt F) Λ₀ .tc) α} :
    iprop(env m ρ K ∗ Ow c l ∗ recvKit (.inl k) c)
      ⊢ iprop(((Ow c l ∗ rowPts c (Moe.src (.inl k) c) fullShare (cAll m ρ) ∗ semVal (recvCell (.inl k) c) 0) -∗ WP c (p ⟨⟩) Q)
          -∗ WP c (.op (.waitDma2 sm src dst hsrc hdst) p) Q) :=
  step_wait_recv m ρ K (.inl k) c hsm hN l hl
theorem step_sent_row (k : Fin 3) (c : Dev nD) {sm : DmaSem sig} (hsm : sm = sendS (.inl k))
    {src dst : Memref sig .tc .vmem S1x16 .f32} (hN : dst.view.dmaCredit = N (.inl k))
    {hsrc : src.view.WordExact} {hdst : dst.view.WordExact} {α : Type} {Q : α → sProp 𝕄} {p : PUnit → Prog (TpuEff nD τ sig (Elt F) Λ₀ .tc) α} :
    iprop(env m ρ K ∗ Ow c [] ∗ sentKit (.inl k) c)
      ⊢ iprop(((Ow c [] ∗ rowPts c c (shr (.inl k)) (cAll m ρ) ∗ semVal (sendCell (.inl k) c) 0) -∗ WP c (p ⟨⟩) Q)
          -∗ WP c (.op (.waitDma2 sm src dst hsrc hdst) p) Q) :=
  step_wait_send m ρ K (.inl k) c hsm hN

/-! ## Loads and stores -/

/-- Expert `j` of device `a`, among the sixteen, and its weights as a device loads them. -/
def exOf (a : Dev nD) (j : Fin 4) : Fin 16 := ⟨4 * a.val + j.val, by have : a.val < 4 := a.isLt; omega⟩
def wOf (a : Dev nD) (j : Fin 4) : Vec F S1x256x512 .bf16 := wEx m ρ (exOf a j)

/-- A load of one expert's weights out of a half's window, held at any share. -/
theorem step_expert (c : Dev nD) (x : Fin 16) (b : Fin 8) (hb : x.val / 2 = b.val) (q : PosShare TreeShare) {off : Fin 3 → Nat}
    (hoff : off = ![x.val, 0, 0]) {inb} {hl} {α : Type} {Q : α → sProp 𝕄} {p : Vec F S1x256x512 .bf16 → Prog (TpuEff nD τ sig (Elt F) Λ₀ .tc) α} :
    halfPts c b q (wAll m ρ)
      ⊢ iprop((halfPts c b q (wAll m ρ) -∗ WP c (p (wEx m ρ x)) Q)
          -∗ WP c (.op (.load wM (Rect.unit (s := S16x256x512) off S1x256x512.size inb).toLoadRect hl) p) Q) := by
  unfold halfPts
  rw [← read_expert m ρ x hoff inb]
  exact wp_load 𝒱₀ (c : Thread nD τ) none Set.univ (m := wM) (expert_subset x b hb hoff inb)
/-- The first two of device `a`'s experts are in its lower half, the others in its upper. -/
theorem step_lo (c a : Dev nD) (j : Fin 4) (hj : j.val < 2) (q : PosShare TreeShare) {off : Fin 3 → Nat}
    (hoff : off = ![(exOf a j).val, 0, 0]) {inb} {hl} {α : Type} {Q : α → sProp 𝕄} {p : Vec F S1x256x512 .bf16 → Prog (TpuEff nD τ sig (Elt F) Λ₀ .tc) α} :
    halfPts c (lo a) q (wAll m ρ)
      ⊢ iprop((halfPts c (lo a) q (wAll m ρ) -∗ WP c (p (wOf m ρ a j)) Q)
          -∗ WP c (.op (.load wM (Rect.unit (s := S16x256x512) off S1x256x512.size inb).toLoadRect hl) p) Q) :=
  step_expert m ρ c (exOf a j) (lo a) (by show (4 * a.val + j.val) / 2 = 2 * a.val; omega) q hoff
theorem step_hi (c a : Dev nD) (j : Fin 4) (hj : 2 ≤ j.val) (q : PosShare TreeShare) {off : Fin 3 → Nat}
    (hoff : off = ![(exOf a j).val, 0, 0]) {inb} {hl} {α : Type} {Q : α → sProp 𝕄} {p : Vec F S1x256x512 .bf16 → Prog (TpuEff nD τ sig (Elt F) Λ₀ .tc) α} :
    halfPts c (hi a) q (wAll m ρ)
      ⊢ iprop((halfPts c (hi a) q (wAll m ρ) -∗ WP c (p (wOf m ρ a j)) Q)
          -∗ WP c (.op (.load wM (Rect.unit (s := S16x256x512) off S1x256x512.size inb).toLoadRect hl) p) Q) :=
  step_expert m ρ c (exOf a j) (hi a) (by show (4 * a.val + j.val) / 2 = 2 * a.val + 1; omega) q hoff

theorem row_setOn (c : Dev nD) {off : Fin 2 → Nat} (hoff : off = ![c.val, 0]) (inb) :
    cM.view.setOn (Rect.unit (s := S4x16) off S1x16.size inb).set ⊆ (rowM c).view.set := by
  subst hoff
  rw [rowM_set]
  intro i hi
  rw [View.setOn, Finset.mem_map] at hi
  obtain ⟨j, hj, rfl⟩ := hi
  exact hj
theorem own_setOn (c : Dev nD) {off : Fin 3 → Nat} (hoff : off = ![4 * c.val, 0, 0]) (inb) :
    wM.view.setOn (Rect.unit (s := S16x256x512) off S4x256x512.size inb).set ⊆ (halfR (lo c)).set ∪ (halfR (hi c)).set := by
  subst hoff
  intro i hi
  rw [View.setOn, Finset.mem_map] at hi
  obtain ⟨j, hj, rfl⟩ := hi
  exact mem_own.mp hj

/-- The load and the store of `c`'s own row of counts. -/
theorem step_load_row (c : Dev nD) (f : (cc0_scratch1 : Ref sig .tc).ty.Contents (Elt F)) {off : Fin 2 → Nat} (hoff : off = ![c.val, 0]) {inb} {hl}
    {α : Type} {Q : α → sProp 𝕄} {p : Vec F S1x16 .f32 → Prog (TpuEff nD τ sig (Elt F) Λ₀ .tc) α} :
    rowPts c c fullShare f
      ⊢ iprop((∀ v, rowPts c c fullShare f -∗ WP c (p v) Q)
          -∗ WP c (.op (.load cM (Rect.unit (s := S4x16) off S1x16.size inb).toLoadRect hl) p) Q) := by
  unfold rowPts
  iintro H Hk
  iapply (wp_load 𝒱₀ (c : Thread nD τ) none Set.univ (m := cM) (row_setOn c hoff inb)) $$ H
  iintro H
  iapply Hk $$ H
theorem step_store_row (c : Dev nD) (f : (cc0_scratch1 : Ref sig .tc).ty.Contents (Elt F)) {off : Fin 2 → Nat} (hoff : off = ![c.val, 0]) {inb} {hx} {hm}
    {α : Type} {Q : α → sProp 𝕄} {p : PUnit → Prog (TpuEff nD τ sig (Elt F) Λ₀ .tc) α} :
    rowPts c c fullShare f
      ⊢ iprop((rowPts c c fullShare (cAll m ρ) -∗ WP c (p ⟨⟩) Q)
          -∗ WP c (.op (.store cM (Rect.unit (s := S4x16) off S1x16.size inb) (k0_pay2 (rstg m ρ c)) Finset.univ hx hm) p) Q) := by
  rw [show (rowPts c c fullShare (cAll m ρ) : sProp 𝕄)
      = rowPts c c fullShare ((cM.access (Rect.unit (s := S4x16) off S1x16.size inb)).write (Elt F) f (k0_pay2 (rstg m ρ c)) Finset.univ) from by
    rw [rowPts_eq, rowPts_eq]; exact pointsTo_congr fun i hi => (row_stored m ρ c hoff inb f hi).symm]
  unfold rowPts
  exact wp_store 𝒱₀ (c : Thread nD τ) none Set.univ (m := cM) (r := Rect.unit (s := S4x16) off S1x16.size inb) (Mk := Finset.univ)
    (by rw [View.setOn_univ, View.set_slice_whole]; exact fun i hi => by subst hoff; rw [rowM_set]; exact hi)

theorem lo_ne_hi (c : Dev nD) : lo c ≠ hi c := by revert c; decide

/-- The load and the store of `c`'s own four experts, over the two windows they cover. -/
theorem own_pts (c : Dev nD) (q : PosShare TreeShare) (f : (cc0_scratch0 : Ref sig .tc).ty.Contents (Elt F)) :
    ((c : Thread nD τ).loc cc0_scratch0 ↦[(halfR (lo c)).set ∪ (halfR (hi c)).set]{q} f : sProp 𝕄) ⊣⊢ iprop(halfPts c (lo c) q f ∗ halfPts c (hi c) q f) := by
  rw [halfPts_eq, halfPts_eq]; exact pointsTo_union (half_disjoint (lo_ne_hi c))
theorem step_load_own (c : Dev nD) (f : (cc0_scratch0 : Ref sig .tc).ty.Contents (Elt F)) {off : Fin 3 → Nat} (hoff : off = ![4 * c.val, 0, 0]) {inb} {hl}
    {α : Type} {Q : α → sProp 𝕄} {p : Vec F S4x256x512 .bf16 → Prog (TpuEff nD τ sig (Elt F) Λ₀ .tc) α} :
    iprop(halfPts c (lo c) fullShare f ∗ halfPts c (hi c) fullShare f)
      ⊢ iprop((∀ v, (halfPts c (lo c) fullShare f ∗ halfPts c (hi c) fullShare f) -∗ WP c (p v) Q)
          -∗ WP c (.op (.load wM (Rect.unit (s := S16x256x512) off S4x256x512.size inb).toLoadRect hl) p) Q) := by
  iintro H Hk
  ihave H := (own_pts c fullShare f).2 $$ H
  iapply (wp_load 𝒱₀ (c : Thread nD τ) none Set.univ (m := wM) (own_setOn c hoff inb)) $$ H
  iintro H
  ihave H := (own_pts c fullShare f).1 $$ H
  iapply Hk $$ H
theorem own_rewritten (c : Dev nD) (f : (cc0_scratch0 : Ref sig .tc).ty.Contents (Elt F)) {off : Fin 3 → Nat} (hoff : off = ![4 * c.val, 0, 0]) (inb) :
    ((c : Thread nD τ).loc cc0_scratch0 ↦[(halfR (lo c)).set ∪ (halfR (hi c)).set]{fullShare}
        (wM.access (Rect.unit (s := S16x256x512) off S4x256x512.size inb)).write (Elt F) f (k0_pay3 (wstg m ρ c)) Finset.univ : sProp 𝕄)
      = ((c : Thread nD τ).loc cc0_scratch0 ↦[(halfR (lo c)).set ∪ (halfR (hi c)).set]{fullShare} wAll m ρ) :=
  pointsTo_congr fun _ hi => own_stored m ρ c hoff inb f hi
theorem step_store_own (c : Dev nD) (f : (cc0_scratch0 : Ref sig .tc).ty.Contents (Elt F)) {off : Fin 3 → Nat} (hoff : off = ![4 * c.val, 0, 0]) {inb} {hx} {hm}
    {α : Type} {Q : α → sProp 𝕄} {p : PUnit → Prog (TpuEff nD τ sig (Elt F) Λ₀ .tc) α} :
    iprop(halfPts c (lo c) fullShare f ∗ halfPts c (hi c) fullShare f)
      ⊢ iprop(((halfPts c (lo c) fullShare (wAll m ρ) ∗ halfPts c (hi c) fullShare (wAll m ρ)) -∗ WP c (p ⟨⟩) Q)
          -∗ WP c (.op (.store wM (Rect.unit (s := S16x256x512) off S4x256x512.size inb) (k0_pay3 (wstg m ρ c)) Finset.univ hx hm) p) Q) := by
  iintro H Hk
  ihave H := (own_pts c fullShare f).2 $$ H
  iapply (wp_store 𝒱₀ (c : Thread nD τ) none Set.univ (m := wM) (r := Rect.unit (s := S16x256x512) off S4x256x512.size inb) (Mk := Finset.univ)
    (S := (halfR (lo c)).set ∪ (halfR (hi c)).set) (f := f)
    (by rw [View.setOn_univ, View.set_slice_whole]; exact fun i hi => by subst hoff; exact mem_own.mp hi)) $$ H
  iintro H
  iapply Hk
  iapply (own_pts c fullShare (wAll m ρ)).1
  iapply (Entails.of_eq (own_rewritten m ρ c f hoff inb)) $$ H

end Cert.Moe

end
-- ==== Proof.Values.lean ====
/-
  WHAT A DEVICE COMPUTES: the kernel's own arithmetic, named, from the operands staged on each device. The experts are taken
  a device at a time — the device's own four, the left neighbour's, the right neighbour's, the opposite device's — and
  `acc1` … `acc9` are the accumulator as the program hands it on.
-/
module

public import proofs.«01_k».proof.Proof.Steps

@[expose] public section

noncomputable section

namespace Cert.Moe

open Cert.KernelIdeal Cert.KernelIdeal.Gen

open Idealize.ShloMosaic
open Idealize.ShloMosaic.TcCoe

variable {F : FTy → Type} [FloatOps F]
variable (m : (ℓ : Loc nD τ sig) → Buf (Elt F) ℓ) (ρ : Dev nD → PrngReg)

/-! ## The words the program computes from its device number -/

def meW (c : Dev nD) : BitVec 32 := Scalar.remsi (Scalar.divsi (Dev.word c) 1#32) 4#32
def ownW (c : Dev nD) : BitVec 32 := Scalar.remsi (Scalar.addi (Scalar.addi (meW c) 0#32) 4#32) 4#32
def leftW (c : Dev nD) : BitVec 32 := Scalar.remsi (Scalar.addi (Scalar.addi (meW c) 4294967295#32) 4#32) 4#32
def rightW (c : Dev nD) : BitVec 32 := Scalar.remsi (Scalar.addi (Scalar.addi (meW c) 1#32) 4#32) 4#32
def acrossW (c : Dev nD) : BitVec 32 := Scalar.remsi (Scalar.addi (meW c) 2#32) 4#32

/-! ## The values -/

/-- The zero the counts of later devices are replaced by. -/
def zeroF : F .f32 := Scalar.ofBits .f32 0x00000000#32
/-- Which rows each expert keeps. -/
def gate (c : Dev nD) : FVec F S512x16 .bf16 := k0_pay5 (k0_pay1 (rstg m ρ c)) (cAll m ρ) (k0_pay4 (meW c)) zeroF
def rowsOf (c : Dev nD) : FVec F S512x256 .bf16 := k0_pay6 (xstg m ρ c)

def acc1 (c : Dev nD) : FVec F S512x512 .f32 :=
  k0_pay9 (gate m ρ c) (rowsOf m ρ c) k0_pay7 (ownW c) (k0_pay8 (meW c) (k0_pay1 (rstg m ρ c)) (cAll m ρ) (k0_pay4 (meW c)) zeroF) (wOf m ρ c 0) (wOf m ρ c 1)
def acc2 (c : Dev nD) : FVec F S512x512 .f32 :=
  k0_pay11 (gate m ρ c) (rowsOf m ρ c) (ownW c) (acc1 m ρ c) (k0_pay10 (gate m ρ c) (ownW c)) (wOf m ρ c 2) (wOf m ρ c 3)
def acc3 (c : Dev nD) : FVec F S512x512 .f32 := k0_pay12 (meW c) (gate m ρ c) (rowsOf m ρ c) (acc2 m ρ c) (wOf m ρ (dv 1 c) 0)
def acc4 (c : Dev nD) : FVec F S512x512 .f32 :=
  k0_pay14 (gate m ρ c) (rowsOf m ρ c) (leftW c) (acc3 m ρ c) (k0_pay13 (meW c)) (wOf m ρ (dv 1 c) 1) (wOf m ρ (dv 1 c) 2)
def acc5 (c : Dev nD) : FVec F S512x512 .f32 := k0_pay16 (gate m ρ c) (rowsOf m ρ c) (acc4 m ρ c) (k0_pay15 (leftW c)) (wOf m ρ (dv 1 c) 3)
def acc6 (c : Dev nD) : FVec F S512x512 .f32 :=
  k0_pay18 (gate m ρ c) (rowsOf m ρ c) (acc5 m ρ c) (rightW c) (k0_pay17 (meW c) (gate m ρ c)) (wOf m ρ (dv 0 c) 0) (wOf m ρ (dv 0 c) 1)
def acc7 (c : Dev nD) : FVec F S512x512 .f32 :=
  k0_pay21 (gate m ρ c) (rowsOf m ρ c) (rightW c) (acc6 m ρ c) (k0_pay19 (wOf m ρ (dv 0 c) 2)) (k0_pay20 (gate m ρ c) (rightW c)) (wOf m ρ (dv 0 c) 3)
def acc8 (c : Dev nD) : FVec F S512x512 .f32 :=
  k0_pay23 (gate m ρ c) (rowsOf m ρ c) (acc7 m ρ c) (acrossW c) (iota .tc S1x16 32 [1] iota_S1x16_d1_w32) (k0_pay22 (meW c)) (wOf m ρ (dv 2 c) 0) (wOf m ρ (dv 2 c) 1)
def acc9 (c : Dev nD) : FVec F S512x512 .f32 := k0_pay24 (gate m ρ c) (rowsOf m ρ c) (acrossW c) (acc8 m ρ c) (wOf m ρ (dv 2 c) 2)
/-- The rows device `c` returns. -/
def outAt (c : Dev nD) : FVec F S512x512 .f32 :=
  k0_pay27 (acc9 m ρ c) (k0_pay25 (wOf m ρ (dv 2 c) 3)) (k0_pay26 (gate m ρ c) (rowsOf m ρ c) (acrossW c))

end Cert.Moe

end
-- ==== Proof.Parts.lean ====
/-
  THE PROGRAM, PART BY PART: each printed part of the kernel, run on a symbolic device `c` from what the part uses to what
  it leaves, one step per effect in program order.
-/
module

public import proofs.«01_k».proof.Proof.Values

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-- A part of the program at the buffers and semaphores the launch gives it. -/
abbrev atBufs {β : Type 1}
    (f : (arg0 : Memref sig .tc .vmem S512x256 .bf16) → arg0.IsWhole → (arg1 : Memref sig .tc .vmem S512x1 .i32) → arg1.IsWhole →
      (arg2 : Memref sig .tc .vmem S4x256x512 .bf16) → arg2.IsWhole → (arg3 : Memref sig .tc .vmem S512x512 .f32) → arg3.IsWhole →
      (arg4 : Memref sig .tc .vmem S16x256x512 .bf16) → arg4.IsWhole → (arg5 : Memref sig .tc .vmem S4x16 .f32) → arg5.IsWhole →
      DmaSems sig S6 → DmaSems sig S6 → DmaSems sig S3 → DmaSems sig S3 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) wM (Memref.isWhole_whole _) cM (Memref.isWhole_whole _) cc0_scratch2 cc0_scratch3 cc0_scratch4 cc0_scratch5

/-! ## The program's windows, devices and words in the protocol's terms -/

theorem dev_of {a b : ℕ} {ha : a < nD} (h : a = b) (hb : b < nD) : (⟨a, ha⟩ : Dev nD) = ⟨b, hb⟩ := Fin.ext h

/-- The half each transfer takes from its sender, and the half it fills at its receiver. -/
def sentHalf (c : Dev nD) : Fin 6 → Fin 8 := ![lo c, hi c, hi c, lo c, lo (dv 1 c), hi (dv 0 c)]
def gotHalf (c : Dev nD) : Fin 6 → Fin 8 := ![lo (dv 1 c), hi (dv 1 c), hi (dv 0 c), lo (dv 0 c), lo (dv 2 c), hi (dv 2 c)]
theorem half_sent (k : Fin 6) (c : Dev nD) : half k c = sentHalf c k := by revert k c; decide
theorem half_got (k : Fin 6) (c : Dev nD) : half k (src (.inr k) c) = gotHalf c k := by revert k c; decide

theorem off4_lo : ∀ c : Dev nD, k0_off4 c = ![2 * (lo c).val, 0, 0] := by decide +kernel
theorem off5_hi : ∀ c : Dev nD, k0_off5 c = ![2 * (hi c).val, 0, 0] := by decide +kernel
theorem off7_lo : ∀ c : Dev nD, k0_off7 c = ![2 * (lo (dv 1 c)).val, 0, 0] := by decide +kernel
theorem off8_hi : ∀ c : Dev nD, k0_off8 c = ![2 * (hi (dv 0 c)).val, 0, 0] := by decide +kernel

/-- An expert's offset as the program computes it: from the device itself, its left or its right neighbour, and from the device across. -/
theorem off6_at : ∀ (c : Dev nD) (o : Fin 3) (b r : Fin 2), k0_off6 c ((![0#32, 4294967295#32, 1#32] : Fin 3 → BitVec 32) o) ((![0#32, 2#32] : Fin 2 → BitVec 32) b)
    ((![0#32, 1#32] : Fin 2 → BitVec 32) r) = ![(exOf ((![c, dv 1 c, dv 0 c] : Fin 3 → Dev nD) o) ⟨2 * b.val + r.val, by omega⟩).val, 0, 0] := by decide +kernel
theorem off9_at : ∀ (c : Dev nD) (b r : Fin 2), k0_off9 c ((![0#32, 2#32] : Fin 2 → BitVec 32) b) ((![0#32, 1#32] : Fin 2 → BitVec 32) r)
    = ![(exOf (dv 2 c) ⟨2 * b.val + r.val, by omega⟩).val, 0, 0] := by decide +kernel

/-- `cg` whole is its four rows, at any share. -/
theorem rows_whole (c : Dev nD) (q : PosShare TreeShare) (f : (cc0_scratch1 : Ref sig .tc).ty.Contents (Elt F)) :
    ((c : Thread nD τ).loc cc0_scratch1 ↦{q} f : sProp 𝕄)
      = iprop(rowPts c c q f ∗ rowPts c (src (.inl 0) c) q f ∗ rowPts c (src (.inl 1) c) q f ∗ rowPts c (src (.inl 2) c) q f) := by
  rw [whole_rows, rows_around c, bigSep_univ_eq_bigSepL [0, 1, 2] (by decide) (by decide)]; rfl

/-! ## What is still to come -/

abbrev evW4 : List Ev := [.inr (.inr 4), .inr (.inr 5)]
abbrev evW3 : List Ev := .inr (.inr 3) :: evW4
abbrev evW : List Ev := .inr (.inr 0) :: .inr (.inr 1) :: .inr (.inr 2) :: evW3
abbrev evC : List Ev := .inr (.inl 0) :: .inr (.inl 1) :: .inr (.inl 2) :: evW

/-- A staged operand, held whole. -/
abbrev stgPts (c : Dev nD) (b : Ref sig .tc) (X : b.ty.Contents (Elt F)) : sProp 𝕄 := ((c : Thread nD τ).loc b) ↦{fullShare} X

theorem hz2 : (![0, 0] : Fin 2 → Nat) = fun _ => 0 := funext fun a => by fin_cases a <;> rfl
theorem hz3 : (![0, 0, 0] : Fin 3 → Nat) = fun _ => 0 := funext fun a => by fin_cases a <;> rfl

theorem read_route (f : (cc0_stg1_0 : Ref sig .tc).ty.Contents (Elt F)) :
    (Memref.whole cc0_stg1_0 : Memref sig .tc .vmem S512x1 .i32).view.readAt (Elt F) (Rect.unit (s := S512x1) ![0, 0] S512x1.size inb_S512x1_S512x1_0_0).toLoadRect f = f :=
  Memref.readAt_unit_zero (Elt F) cc0_stg1_0 hz2 _ f
theorem read_rows (f : (cc0_stg0_0 : Ref sig .tc).ty.Contents (Elt F)) :
    (Memref.whole cc0_stg0_0 : Memref sig .tc .vmem S512x256 .bf16).view.readAt (Elt F) (Rect.unit (s := S512x256) ![0, 0] S512x256.size inb_S512x256_S512x256_0_0).toLoadRect f = f :=
  Memref.readAt_unit_zero (Elt F) cc0_stg0_0 hz2 _ f
theorem read_weights (f : (cc0_stg2_0 : Ref sig .tc).ty.Contents (Elt F)) :
    (Memref.whole cc0_stg2_0 : Memref sig .tc .vmem S4x256x512 .bf16).view.readAt (Elt F) (Rect.unit (s := S4x256x512) ![0, 0, 0] S4x256x512.size inb_S4x256x512_S4x256x512_0_0_0).toLoadRect f = f :=
  Memref.readAt_unit_zero (Elt F) cc0_stg2_0 hz3 _ f
theorem read_counts (f : (cc0_scratch1 : Ref sig .tc).ty.Contents (Elt F)) :
    (cM : Memref sig .tc .vmem S4x16 .f32).view.readAt (Elt F) (Rect.unit (s := S4x16) ![0, 0] S4x16.size inb_S4x16_S4x16_0_0).toLoadRect f = f :=
  Memref.readAt_unit_zero (Elt F) cc0_scratch1 hz2 _ f
theorem write_out (f w : (cc0_stg3_0 : Ref sig .tc).ty.Contents (Elt F)) :
    ((Memref.whole cc0_stg3_0 : Memref sig .tc .vmem S512x512 .f32).access (Rect.unit (s := S512x512) ![0, 0] S512x512.size inb_S512x512_S512x512_0_0) : View sig .tc _ _ _).write (Elt F) f w Finset.univ = w :=
  Memref.write_access_unit_zero_univ (Elt F) cc0_stg3_0 hz2 _ f w

theorem step_ret (c : Dev nD) {α : Type} (a : α) (Q : α → sProp 𝕄) : Q a ⊢ WP c (.ret a) Q := by
  rw [show WP c (.ret a) Q = _ from wp_ret _ _ _ _ _]; exact fupd_intro

/-! ## The parts -/

theorem part1_ok (c : Dev nD) (f : (cc0_scratch1 : Ref sig .tc).ty.Contents (Elt F)) {Q} :
    iprop(env m ρ K ∗ Ow c (.inl 0 :: .inl 1 :: .inl 2 :: evC) ∗ (sigKit 0 c ∗ sigKit 1 c ∗ sigKit 2 c) ∗ barKit c
        ∗ stgPts c cc0_stg1_0 (rstg m ρ c) ∗ rowPts c c fullShare f)
      ⊢ iprop(((Ow c evC ∗ semVal (barCell c) 0 ∗ (bigSep Finset.univ fun t => landing (F := F) t c)
            ∗ stgPts c cc0_stg1_0 (rstg m ρ c) ∗ rowPts c c fullShare f)
          -∗ Q ⟨c, meW c, Scalar.remsi (Scalar.subi (Scalar.addi (meW c) 4#32) 1#32) 4#32, Scalar.remsi (Scalar.addi (meW c) 1#32) 4#32,
            Scalar.remsi (Scalar.addi (meW c) 2#32) 4#32, k0_pay1 (rstg m ρ c), k0_pay2 (rstg m ρ c)⟩)
        -∗ WP c (atBufs (k0_part1 (F := F))) Q) := by
  unfold atBufs; rw [k0_part1_eq_skeleton]; unfold k0_part1_skel
  simp only [semSignalWord, semWaitWord, Prog.lift, Prog.bind_op, Prog.bind_ret, Prog.pure_eq_ret, wp_deviceId]
  iintro ⟨#He, HO, ⟨Hs0, Hs1, Hs2⟩, Hb, Hr, Hc⟩
  iintro Hk
  iapply (step_signal m ρ K 0 c _ (dev_of (k0_dev1_eq c) _) (.inl 1 :: .inl 2 :: evC)) $$ [$He $HO $Hs0]
  iintro HO
  iapply (step_signal m ρ K 1 c _ (dev_of (k0_dev2_eq c) _) (.inl 2 :: evC)) $$ [$He $HO $Hs1]
  iintro HO
  iapply (step_signal m ρ K 2 c _ (dev_of (k0_dev3_eq c) _) evC) $$ [$He $HO $Hs2]
  iintro HO
  iapply (step_barrier m ρ K c evC (by decide)) $$ [$He $HO $Hb]
  iintro ⟨HO, Hz, Hl⟩
  iapply (wp_load 𝒱₀ (c : Thread nD τ) none Set.univ (m := Memref.whole cc0_stg1_0) (Finset.subset_univ _)) $$ Hr; iintro Hr
  rw [read_route]
  iapply (step_load_row c f (k0_off1_eq c)) $$ Hc; iintro %v Hc
  iapply step_ret
  rw [show Scalar.remsi (Scalar.divsi (Dev.word c) 1#32) 4#32 = meW c from rfl]
  iapply Hk $$ [$HO $Hz $Hl $Hr $Hc]

theorem part2_ok (c : Dev nD) (f : (cc0_scratch1 : Ref sig .tc).ty.Contents (Elt F)) (g : (cc0_scratch0 : Ref sig .tc).ty.Contents (Elt F))
    (v2 v5 v7 v9 : BitVec 32) {Q} :
    iprop(env m ρ K ∗ Ow c evC ∗ rowPts c c fullShare f ∗ (sendKit (.inl 0) c ∗ sendKit (.inl 1) c ∗ sendKit (.inl 2) c)
        ∗ (landing (.inl 0) c ∗ landing (.inl 1) c ∗ landing (.inl 2) c)
        ∗ stgPts c cc0_stg2_0 (wstg m ρ c) ∗ halfPts c (lo c) fullShare g ∗ halfPts c (hi c) fullShare g)
      ⊢ iprop(((Ow c evW ∗ rowPts c c (fullShare : PosShare TreeShare).right (cAll m ρ) ∗ (sentKit (.inl 0) c ∗ sentKit (.inl 1) c ∗ sentKit (.inl 2) c)
            ∗ stgPts c cc0_stg2_0 (wstg m ρ c) ∗ halfPts c (lo c) fullShare (wAll m ρ) ∗ halfPts c (hi c) fullShare (wAll m ρ)) -∗ Q ⟨⟩)
        -∗ WP c (atBufs (k0_part2 (F := F)) c v2 v5 v7 v9 (k0_pay2 (rstg m ρ c))) Q) := by
  unfold atBufs; rw [k0_part2_eq_skeleton]; unfold k0_part2_skel
  simp only [semSignalWord, semWaitWord, Prog.lift, Prog.bind_op, Prog.bind_ret, Prog.pure_eq_ret, wp_deviceId]
  iintro ⟨#He, HO, Hc, ⟨Hk0, Hk1, Hk2⟩, ⟨Hl0, Hl1, Hl2⟩, Hw, Hlo, Hhi⟩
  iintro Hk
  iapply (step_store_row m ρ c f (k0_off1_eq c)) $$ Hc
  iintro Hc
  ihave Hc := (row_share c c fullShare (cAll m ρ)).1 $$ Hc
  icases Hc with ⟨Hc, HcR⟩
  ihave Hc := (row_share c c (fullShare : PosShare TreeShare).left (cAll m ρ)).1 $$ Hc
  icases Hc with ⟨Hc0, Hc⟩
  ihave Hc := (row_share c c (fullShare : PosShare TreeShare).left.right (cAll m ρ)).1 $$ Hc
  icases Hc with ⟨Hc1, Hc2⟩
  iapply (step_send_row m ρ K 0 c _ (dev_of (k0_dev4_eq c) _) (row_slice (k0_off2_eq c) _) rfl rfl (.inr (.inl 1) :: .inr (.inl 2) :: evW))
    $$ [$He $HO $Hk0 $Hl0 $Hc0]
  iintro ⟨HO, Hk0⟩
  iapply (step_send_row m ρ K 1 c _ (dev_of (k0_dev5_eq c) _) (row_slice (k0_off2_eq c) _) rfl rfl (.inr (.inl 2) :: evW))
    $$ [$He $HO $Hk1 $Hl1 $Hc1]
  iintro ⟨HO, Hk1⟩
  iapply (step_send_row m ρ K 2 c _ (dev_of (k0_dev6_eq c) _) (row_slice (k0_off2_eq c) _) rfl rfl evW)
    $$ [$He $HO $Hk2 $Hl2 $Hc2]
  iintro ⟨HO, Hk2⟩
  iapply (wp_load 𝒱₀ (c : Thread nD τ) none Set.univ (m := Memref.whole cc0_stg2_0) (Finset.subset_univ _)) $$ Hw; iintro Hw
  rw [read_weights]
  iapply (step_load_own c g (k0_off3_eq c)) $$ [$Hlo $Hhi]; iintro %v ⟨Hlo, Hhi⟩
  iapply (step_store_own m ρ c g (k0_off3_eq c)) $$ [$Hlo $Hhi]; iintro ⟨Hlo, Hhi⟩
  iapply step_ret
  iapply Hk $$ [$HO $HcR $Hk0 $Hk1 $Hk2 $Hw $Hlo $Hhi]

theorem part3_ok (c : Dev nD) (v2 v5 v7 : BitVec 32) {Q} :
    iprop(env m ρ K ∗ Ow c evW ∗ (sendKit (.inr 0) c ∗ sendKit (.inr 1) c ∗ sendKit (.inr 2) c)
        ∗ (landing (.inr 0) c ∗ landing (.inr 1) c ∗ landing (.inr 2) c)
        ∗ halfPts c (lo c) fullShare (wAll m ρ) ∗ halfPts c (hi c) fullShare (wAll m ρ))
      ⊢ iprop(((Ow c evW3 ∗ (sentKit (.inr 0) c ∗ sentKit (.inr 1) c ∗ sentKit (.inr 2) c)
            ∗ halfPts c (lo c) (shr (.inr 3)) (wAll m ρ) ∗ halfPts c (lo c) (fullShare : PosShare TreeShare).right (wAll m ρ) ∗ halfPts c (hi c) (fullShare : PosShare TreeShare).right (wAll m ρ)) -∗ Q 1#32)
        -∗ WP c (atBufs (k0_part3 (F := F)) c v2 v5 v7) Q) := by
  unfold atBufs; rw [k0_part3_eq_skeleton]; unfold k0_part3_skel
  simp only [semSignalWord, semWaitWord, Prog.lift, Prog.bind_op, Prog.bind_ret, Prog.pure_eq_ret, wp_deviceId]
  iintro ⟨#He, HO, ⟨Hk0, Hk1, Hk2⟩, ⟨Hl0, Hl1, Hl2⟩, Hlo, Hhi⟩
  iintro Hk
  ihave Hlo := (half_share c (lo c) fullShare (wAll m ρ)).1 $$ Hlo
  icases Hlo with ⟨Hlo, HloR⟩
  ihave Hlo := (half_share c (lo c) (fullShare : PosShare TreeShare).left (wAll m ρ)).1 $$ Hlo
  icases Hlo with ⟨Hlo0, Hlo3⟩
  ihave Hhi := (half_share c (hi c) fullShare (wAll m ρ)).1 $$ Hhi
  icases Hhi with ⟨Hhi, HhiR⟩
  ihave Hhi := (half_share c (hi c) (fullShare : PosShare TreeShare).left (wAll m ρ)).1 $$ Hhi
  icases Hhi with ⟨Hhi1, Hhi2⟩
  iapply (step_send_half m ρ K 0 c _ (dev_of (k0_dev7_eq c) _) (lo c) (half_sent 0 c) (half_slice (off4_lo c) _) rfl rfl (.inr (.inr 1) :: .inr (.inr 2) :: evW3))
    $$ [$He $HO $Hk0 $Hl0 $Hlo0]
  iintro ⟨HO, Hk0⟩
  iapply (step_send_half m ρ K 1 c _ (dev_of (k0_dev8_eq c) _) (hi c) (half_sent 1 c) (half_slice (off5_hi c) _) rfl rfl (.inr (.inr 2) :: evW3))
    $$ [$He $HO $Hk1 $Hl1 $Hhi1]
  iintro ⟨HO, Hk1⟩
  iapply (step_send_half m ρ K 2 c _ (dev_of (k0_dev9_eq c) _) (hi c) (half_sent 2 c) (half_slice (off5_hi c) _) rfl rfl evW3)
    $$ [$He $HO $Hk2 $Hl2 $Hhi2]
  iintro ⟨HO, Hk2⟩
  iapply step_ret
  iapply Hk $$ [$HO $Hk0 $Hk1 $Hk2 $Hlo3 $HloR $HhiR]

theorem part4_ok (c : Dev nD) (v2 v5 v7 v9 w : BitVec 32) {Q} :
    iprop(env m ρ K ∗ Ow c evW3 ∗ sendKit (.inr 3) c ∗ landing (.inr 3) c ∗ halfPts c (lo c) (shr (.inr 3)) (wAll m ρ)
        ∗ (recvKit (.inl 0) c ∗ recvKit (.inl 1) c ∗ recvKit (.inl 2) c) ∗ rowPts c c (fullShare : PosShare TreeShare).right (cAll m ρ))
      ⊢ iprop(((Ow c evW4 ∗ sentKit (.inr 3) c
            ∗ (semVal (recvCell (.inl 0) c) 0 ∗ semVal (recvCell (.inl 1) c) 0 ∗ semVal (recvCell (.inl 2) c) 0)
            ∗ (rowPts c (src (.inl 0) c) (fullShare : PosShare TreeShare).left (cAll m ρ) ∗ rowPts c (src (.inl 1) c) (fullShare : PosShare TreeShare).left (cAll m ρ) ∗ rowPts c (src (.inl 2) c) (fullShare : PosShare TreeShare).left (cAll m ρ))
            ∗ ((c : Thread nD τ).loc cc0_scratch1 ↦{(fullShare : PosShare TreeShare).right} cAll m ρ)) -∗ Q ⟨cAll m ρ, k0_pay4 v2, zeroF⟩)
        -∗ WP c (atBufs (k0_part4 (F := F)) c v2 v5 v7 v9 w) Q) := by
  unfold atBufs; rw [k0_part4_eq_skeleton]; unfold k0_part4_skel
  simp only [semSignalWord, semWaitWord, Prog.lift, Prog.bind_op, Prog.bind_ret, Prog.pure_eq_ret, wp_deviceId]
  unfold zeroF
  iintro ⟨#He, HO, Hk3, Hl3, Hlo3, ⟨Hr0, Hr1, Hr2⟩, HcR⟩
  iintro Hk
  iapply (step_send_half m ρ K 3 c _ (dev_of (k0_dev10_eq c) _) (lo c) (half_sent 3 c) (half_slice (off4_lo c) _) rfl rfl evW4)
    $$ [$He $HO $Hk3 $Hl3 $Hlo3]
  iintro ⟨HO, Hk3⟩
  iapply (step_recv_row m ρ K 0 c rfl (by rfl) evW4 (by decide)) $$ [$He $HO $Hr0]
  iintro ⟨HO, Hw0, Hz0⟩
  iapply (step_recv_row m ρ K 1 c rfl (by rfl) evW4 (by decide)) $$ [$He $HO $Hr1]
  iintro ⟨HO, Hw1, Hz1⟩
  iapply (step_recv_row m ρ K 2 c rfl (by rfl) evW4 (by decide)) $$ [$He $HO $Hr2]
  iintro ⟨HO, Hw2, Hz2⟩
  ihave Hw0 := (row_share c (src (.inl 0) c) fullShare (cAll m ρ)).1 $$ Hw0
  icases Hw0 with ⟨Hw0, Hw0R⟩
  ihave Hw1 := (row_share c (src (.inl 1) c) fullShare (cAll m ρ)).1 $$ Hw1
  icases Hw1 with ⟨Hw1, Hw1R⟩
  ihave Hw2 := (row_share c (src (.inl 2) c) fullShare (cAll m ρ)).1 $$ Hw2
  icases Hw2 with ⟨Hw2, Hw2R⟩
  ihave Hc := (Entails.of_eq (rows_whole c (fullShare : PosShare TreeShare).right (cAll m ρ)).symm) $$ [$HcR $Hw0R $Hw1R $Hw2R]
  iapply (wp_load 𝒱₀ (c : Thread nD τ) none Set.univ (m := cM) (Finset.subset_univ _)) $$ Hc; iintro Hc
  rw [read_counts]
  iapply step_ret
  iapply Hk $$ [$HO $Hk3 $Hz0 $Hz1 $Hz2 $Hw0 $Hw1 $Hw2 $Hc]

theorem part5_ok (c : Dev nD) {Q} :
    stgPts c cc0_stg0_0 (xstg m ρ c)
      ⊢ iprop((stgPts c cc0_stg0_0 (xstg m ρ c) -∗ ∀ v, Q ⟨gate m ρ c, rowsOf m ρ c, k0_pay7, ownW c, v,
            k0_pay8 (meW c) (k0_pay1 (rstg m ρ c)) (cAll m ρ) (k0_pay4 (meW c)) zeroF⟩)
        -∗ WP c (atBufs (k0_part5 (F := F)) (meW c) (k0_pay1 (rstg m ρ c)) (cAll m ρ) (k0_pay4 (meW c)) zeroF) Q) := by
  unfold atBufs; rw [k0_part5_eq_skeleton]; unfold k0_part5_skel
  simp only [semSignalWord, semWaitWord, Prog.lift, Prog.bind_op, Prog.bind_ret, Prog.pure_eq_ret, wp_deviceId]
  unfold gate rowsOf ownW
  iintro Hx Hk
  iapply (wp_load 𝒱₀ (c : Thread nD τ) none Set.univ (m := Memref.whole cc0_stg0_0) (Finset.subset_univ _)) $$ Hx; iintro Hx
  rw [read_rows]
  iapply step_ret
  iapply Hk $$ Hx

theorem part6_ok (c : Dev nD) (v : BitVec 32) {Q} :
    halfPts c (lo c) (fullShare : PosShare TreeShare).right (wAll m ρ)
      ⊢ iprop((halfPts c (lo c) (fullShare : PosShare TreeShare).right (wAll m ρ) -∗ ∀ v, Q ⟨acc1 m ρ c, v, k0_pay10 (gate m ρ c) (ownW c)⟩)
        -∗ WP c (atBufs (k0_part6 (F := F)) c (gate m ρ c) (rowsOf m ρ c) k0_pay7 (ownW c) v
            (k0_pay8 (meW c) (k0_pay1 (rstg m ρ c)) (cAll m ρ) (k0_pay4 (meW c)) zeroF)) Q) := by
  unfold atBufs; rw [k0_part6_eq_skeleton]; unfold k0_part6_skel
  simp only [semSignalWord, semWaitWord, Prog.lift, Prog.bind_op, Prog.bind_ret, Prog.pure_eq_ret, wp_deviceId]
  unfold acc1
  iintro Hw Hk
  iapply (step_lo m ρ c c 0 (by decide) (fullShare : PosShare TreeShare).right (off := k0_off6 c 0#32 0#32 0#32) (off6_at c 0 0 0)) $$ Hw; iintro Hw
  iapply (step_lo m ρ c c 1 (by decide) (fullShare : PosShare TreeShare).right (off := k0_off6 c 0#32 0#32 1#32) (off6_at c 0 0 1)) $$ Hw; iintro Hw
  iapply step_ret
  iapply Hk $$ Hw

theorem part7_ok (c : Dev nD) (v7 v : BitVec 32) {Q} :
    halfPts c (hi c) (fullShare : PosShare TreeShare).right (wAll m ρ)
      ⊢ iprop((halfPts c (hi c) (fullShare : PosShare TreeShare).right (wAll m ρ) -∗ ∀ v v', Q ⟨acc2 m ρ c, v, v'⟩)
        -∗ WP c (atBufs (k0_part7 (F := F)) c (meW c) v7 (gate m ρ c) (rowsOf m ρ c) (ownW c) (acc1 m ρ c) v (k0_pay10 (gate m ρ c) (ownW c))) Q) := by
  unfold atBufs; rw [k0_part7_eq_skeleton]; unfold k0_part7_skel
  simp only [semSignalWord, semWaitWord, Prog.lift, Prog.bind_op, Prog.bind_ret, Prog.pure_eq_ret, wp_deviceId]
  unfold acc2
  iintro Hw Hk
  iapply (step_hi m ρ c c 2 (by decide) (fullShare : PosShare TreeShare).right (off := k0_off6 c 0#32 2#32 0#32) (off6_at c 0 1 0)) $$ Hw; iintro Hw
  iapply (step_hi m ρ c c 3 (by decide) (fullShare : PosShare TreeShare).right (off := k0_off6 c 0#32 2#32 1#32) (off6_at c 0 1 1)) $$ Hw; iintro Hw
  iapply step_ret
  iapply Hk $$ Hw

theorem part8_ok (c : Dev nD) (v5 v7 v240 v242 : BitVec 32) {Q} :
    iprop(env m ρ K ∗ Ow c evW4 ∗ (recvKit (.inr 0) c ∗ recvKit (.inr 2) c) ∗ (sendKit (.inr 4) c ∗ sendKit (.inr 5) c) ∗ (landing (.inr 4) c ∗ landing (.inr 5) c))
      ⊢ iprop(((Ow c [] ∗ (semVal (recvCell (.inr 0) c) 0 ∗ semVal (recvCell (.inr 2) c) 0) ∗ (sentKit (.inr 4) c ∗ sentKit (.inr 5) c)
            ∗ halfPts c (lo (dv 1 c)) (fullShare : PosShare TreeShare).right (wAll m ρ) ∗ halfPts c (hi (dv 0 c)) (fullShare : PosShare TreeShare).right (wAll m ρ)) -∗ Q ⟨⟩)
        -∗ WP c (atBufs (k0_part8 (F := F)) c v5 v7 v240 v242) Q) := by
  unfold atBufs; rw [k0_part8_eq_skeleton]; unfold k0_part8_skel
  simp only [semSignalWord, semWaitWord, Prog.lift, Prog.bind_op, Prog.bind_ret, Prog.pure_eq_ret, wp_deviceId]
  iintro ⟨#He, HO, ⟨Hr0, Hr2⟩, ⟨Hk4, Hk5⟩, ⟨Hl4, Hl5⟩⟩
  iintro Hk
  iapply (step_recv_half m ρ K 0 c (lo (dv 1 c)) (half_got 0 c) rfl (by rfl) evW4 (by decide)) $$ [$He $HO $Hr0]
  iintro ⟨HO, Hw, Hz0⟩
  ihave Hw := (half_share c (lo (dv 1 c)) fullShare (wAll m ρ)).1 $$ Hw
  icases Hw with ⟨Hw, Hw0⟩
  iapply (step_send_half m ρ K 4 c _ (dev_of (k0_dev11_eq c) _) (lo (dv 1 c)) (half_sent 4 c) (half_slice (off7_lo c) _) rfl rfl [.inr (.inr 5)])
    $$ [$He $HO $Hk4 $Hl4 $Hw]
  iintro ⟨HO, Hk4⟩
  iapply (step_recv_half m ρ K 2 c (hi (dv 0 c)) (half_got 2 c) rfl (by rfl) [.inr (.inr 5)] (by decide)) $$ [$He $HO $Hr2]
  iintro ⟨HO, Hw, Hz2⟩
  ihave Hw := (half_share c (hi (dv 0 c)) fullShare (wAll m ρ)).1 $$ Hw
  icases Hw with ⟨Hw, Hw2⟩
  iapply (step_send_half m ρ K 5 c _ (dev_of (k0_dev12_eq c) _) (hi (dv 0 c)) (half_sent 5 c) (half_slice (off8_hi c) _) rfl rfl [])
    $$ [$He $HO $Hk5 $Hl5 $Hw]
  iintro ⟨HO, Hk5⟩
  iapply step_ret
  iapply Hk $$ [$HO $Hz0 $Hz2 $Hk4 $Hk5 $Hw0 $Hw2]

theorem part9_ok (c : Dev nD) (v7 : BitVec 32) {Q} :
    iprop(env m ρ K ∗ Ow c [] ∗ recvKit (.inr 1) c ∗ halfPts c (lo (dv 1 c)) (fullShare : PosShare TreeShare).right (wAll m ρ))
      ⊢ iprop(((Ow c [] ∗ semVal (recvCell (.inr 1) c) 0 ∗ halfPts c (hi (dv 1 c)) fullShare (wAll m ρ) ∗ halfPts c (lo (dv 1 c)) (fullShare : PosShare TreeShare).right (wAll m ρ))
          -∗ ∀ v, Q ⟨leftW c, acc3 m ρ c, v, k0_pay13 (meW c)⟩)
        -∗ WP c (atBufs (k0_part9 (F := F)) c (meW c) v7 (gate m ρ c) (rowsOf m ρ c) (acc2 m ρ c)) Q) := by
  unfold atBufs; rw [k0_part9_eq_skeleton]; unfold k0_part9_skel
  simp only [semSignalWord, semWaitWord, Prog.lift, Prog.bind_op, Prog.bind_ret, Prog.pure_eq_ret, wp_deviceId]
  unfold acc3 leftW
  iintro ⟨#He, HO, Hr, Hw⟩
  iintro Hk
  iapply (step_recv_half m ρ K 1 c (hi (dv 1 c)) (half_got 1 c) rfl (by rfl) [] (by decide)) $$ [$He $HO $Hr]
  iintro ⟨HO, Hw', Hz⟩
  iapply (step_lo m ρ c (dv 1 c) 0 (by decide) (fullShare : PosShare TreeShare).right (off := k0_off6 c 4294967295#32 0#32 0#32) (off6_at c 1 0 0)) $$ Hw; iintro Hw
  iapply step_ret
  iapply Hk $$ [$HO $Hz $Hw' $Hw]

theorem part10_ok (c : Dev nD) (v : BitVec 32) {Q} :
    iprop(halfPts c (lo (dv 1 c)) (fullShare : PosShare TreeShare).right (wAll m ρ) ∗ halfPts c (hi (dv 1 c)) fullShare (wAll m ρ))
      ⊢ iprop(((halfPts c (lo (dv 1 c)) (fullShare : PosShare TreeShare).right (wAll m ρ) ∗ halfPts c (hi (dv 1 c)) fullShare (wAll m ρ))
          -∗ ∀ v, Q ⟨acc4 m ρ c, v, k0_pay15 (leftW c)⟩)
        -∗ WP c (atBufs (k0_part10 (F := F)) c (gate m ρ c) (rowsOf m ρ c) (leftW c) (acc3 m ρ c) v (k0_pay13 (meW c))) Q) := by
  unfold atBufs; rw [k0_part10_eq_skeleton]; unfold k0_part10_skel
  simp only [semSignalWord, semWaitWord, Prog.lift, Prog.bind_op, Prog.bind_ret, Prog.pure_eq_ret, wp_deviceId]
  unfold acc4
  iintro ⟨Hw, Hw'⟩ Hk
  iapply (step_lo m ρ c (dv 1 c) 1 (by decide) (fullShare : PosShare TreeShare).right (off := k0_off6 c 4294967295#32 0#32 1#32) (off6_at c 1 0 1)) $$ Hw; iintro Hw
  iapply (step_hi m ρ c (dv 1 c) 2 (by decide) fullShare (off := k0_off6 c 4294967295#32 2#32 0#32) (off6_at c 1 1 0)) $$ Hw'; iintro Hw'
  iapply step_ret
  iapply Hk $$ [$Hw $Hw']

theorem part11_ok (c : Dev nD) (v5 v : BitVec 32) {Q} :
    iprop(env m ρ K ∗ Ow c [] ∗ recvKit (.inr 3) c ∗ halfPts c (hi (dv 1 c)) fullShare (wAll m ρ))
      ⊢ iprop(((Ow c [] ∗ semVal (recvCell (.inr 3) c) 0 ∗ halfPts c (hi (dv 1 c)) fullShare (wAll m ρ) ∗ halfPts c (lo (dv 0 c)) fullShare (wAll m ρ))
          -∗ Q ⟨acc5 m ρ c, rightW c, k0_pay17 (meW c) (gate m ρ c), wOf m ρ (dv 0 c) 0⟩)
        -∗ WP c (atBufs (k0_part11 (F := F)) c (meW c) v5 (gate m ρ c) (rowsOf m ρ c) (acc4 m ρ c) v (k0_pay15 (leftW c))) Q) := by
  unfold atBufs; rw [k0_part11_eq_skeleton]; unfold k0_part11_skel
  simp only [semSignalWord, semWaitWord, Prog.lift, Prog.bind_op, Prog.bind_ret, Prog.pure_eq_ret, wp_deviceId]
  unfold acc5 rightW
  iintro ⟨#He, HO, Hr, Hw⟩
  iintro Hk
  iapply (step_hi m ρ c (dv 1 c) 3 (by decide) fullShare (off := k0_off6 c 4294967295#32 2#32 1#32) (off6_at c 1 1 1)) $$ Hw; iintro Hw
  iapply (step_recv_half m ρ K 3 c (lo (dv 0 c)) (half_got 3 c) rfl (by rfl) [] (by decide)) $$ [$He $HO $Hr]
  iintro ⟨HO, Hw', Hz⟩
  iapply (step_lo m ρ c (dv 0 c) 0 (by decide) fullShare (off := k0_off6 c 1#32 0#32 0#32) (off6_at c 2 0 0)) $$ Hw'; iintro Hw'
  iapply step_ret
  iapply Hk $$ [$HO $Hz $Hw $Hw']

theorem part12_ok (c : Dev nD) {Q} :
    iprop(halfPts c (lo (dv 0 c)) fullShare (wAll m ρ) ∗ halfPts c (hi (dv 0 c)) (fullShare : PosShare TreeShare).right (wAll m ρ))
      ⊢ iprop(((halfPts c (lo (dv 0 c)) fullShare (wAll m ρ) ∗ halfPts c (hi (dv 0 c)) (fullShare : PosShare TreeShare).right (wAll m ρ))
          -∗ Q ⟨acc6 m ρ c, k0_pay19 (wOf m ρ (dv 0 c) 2), k0_pay20 (gate m ρ c) (rightW c)⟩)
        -∗ WP c (atBufs (k0_part12 (F := F)) c (gate m ρ c) (rowsOf m ρ c) (acc5 m ρ c) (rightW c) (k0_pay17 (meW c) (gate m ρ c)) (wOf m ρ (dv 0 c) 0)) Q) := by
  unfold atBufs; rw [k0_part12_eq_skeleton]; unfold k0_part12_skel
  simp only [semSignalWord, semWaitWord, Prog.lift, Prog.bind_op, Prog.bind_ret, Prog.pure_eq_ret, wp_deviceId]
  unfold acc6
  iintro ⟨Hw, Hw'⟩ Hk
  iapply (step_lo m ρ c (dv 0 c) 1 (by decide) fullShare (off := k0_off6 c 1#32 0#32 1#32) (off6_at c 2 0 1)) $$ Hw; iintro Hw
  iapply (step_hi m ρ c (dv 0 c) 2 (by decide) (fullShare : PosShare TreeShare).right (off := k0_off6 c 1#32 2#32 0#32) (off6_at c 2 1 0)) $$ Hw'; iintro Hw'
  iapply step_ret
  iapply Hk $$ [$Hw $Hw']

theorem part13_ok (c : Dev nD) (v7 : BitVec 32) {Q} :
    iprop(env m ρ K ∗ Ow c [] ∗ recvKit (.inr 4) c ∗ halfPts c (hi (dv 0 c)) (fullShare : PosShare TreeShare).right (wAll m ρ))
      ⊢ iprop(((Ow c [] ∗ semVal (recvCell (.inr 4) c) 0 ∗ halfPts c (hi (dv 0 c)) (fullShare : PosShare TreeShare).right (wAll m ρ) ∗ halfPts c (lo (dv 2 c)) fullShare (wAll m ρ))
          -∗ ∀ v, Q ⟨acc7 m ρ c, acrossW c, v, iota .tc S1x16 32 [1] iota_S1x16_d1_w32, k0_pay22 (meW c)⟩)
        -∗ WP c (atBufs (k0_part13 (F := F)) c (meW c) v7 (gate m ρ c) (rowsOf m ρ c) (rightW c) (acc6 m ρ c) (k0_pay19 (wOf m ρ (dv 0 c) 2))
            (k0_pay20 (gate m ρ c) (rightW c))) Q) := by
  unfold atBufs; rw [k0_part13_eq_skeleton]; unfold k0_part13_skel
  simp only [semSignalWord, semWaitWord, Prog.lift, Prog.bind_op, Prog.bind_ret, Prog.pure_eq_ret, wp_deviceId]
  unfold acc7 acrossW
  iintro ⟨#He, HO, Hr, Hw⟩
  iintro Hk
  iapply (step_hi m ρ c (dv 0 c) 3 (by decide) (fullShare : PosShare TreeShare).right (off := k0_off6 c 1#32 2#32 1#32) (off6_at c 2 1 1)) $$ Hw; iintro Hw
  iapply (step_recv_half m ρ K 4 c (lo (dv 2 c)) (half_got 4 c) rfl (by rfl) [] (by decide)) $$ [$He $HO $Hr]
  iintro ⟨HO, Hw', Hz⟩
  iapply step_ret
  iapply Hk $$ [$HO $Hz $Hw $Hw']

theorem part14_ok (c : Dev nD) (v5 v : BitVec 32) {Q} :
    halfPts c (lo (dv 2 c)) fullShare (wAll m ρ)
      ⊢ iprop((halfPts c (lo (dv 2 c)) fullShare (wAll m ρ) -∗ Q (acc8 m ρ c))
        -∗ WP c (atBufs (k0_part14 (F := F)) c v5 (gate m ρ c) (rowsOf m ρ c) (acc7 m ρ c) (acrossW c) v (iota .tc S1x16 32 [1] iota_S1x16_d1_w32) (k0_pay22 (meW c))) Q) := by
  unfold atBufs; rw [k0_part14_eq_skeleton]; unfold k0_part14_skel
  simp only [semSignalWord, semWaitWord, Prog.lift, Prog.bind_op, Prog.bind_ret, Prog.pure_eq_ret, wp_deviceId]
  unfold acc8
  iintro Hw Hk
  iapply (step_lo m ρ c (dv 2 c) 0 (by decide) fullShare (off := k0_off9 c 0#32 0#32) (off9_at c 0 0)) $$ Hw; iintro Hw
  iapply (step_lo m ρ c (dv 2 c) 1 (by decide) fullShare (off := k0_off9 c 0#32 1#32) (off9_at c 0 1)) $$ Hw; iintro Hw
  iapply step_ret
  iapply Hk $$ Hw

theorem part15_ok (c : Dev nD) {Q} :
    iprop(env m ρ K ∗ Ow c [] ∗ recvKit (.inr 5) c)
      ⊢ iprop(((Ow c [] ∗ semVal (recvCell (.inr 5) c) 0 ∗ halfPts c (hi (dv 2 c)) fullShare (wAll m ρ))
          -∗ Q ⟨acc9 m ρ c, k0_pay25 (wOf m ρ (dv 2 c) 3), k0_pay26 (gate m ρ c) (rowsOf m ρ c) (acrossW c)⟩)
        -∗ WP c (atBufs (k0_part15 (F := F)) c (gate m ρ c) (rowsOf m ρ c) (acrossW c) (acc8 m ρ c)) Q) := by
  unfold atBufs; rw [k0_part15_eq_skeleton]; unfold k0_part15_skel
  simp only [semSignalWord, semWaitWord, Prog.lift, Prog.bind_op, Prog.bind_ret, Prog.pure_eq_ret, wp_deviceId]
  unfold acc9
  iintro ⟨#He, HO, Hr⟩
  iintro Hk
  iapply (step_recv_half m ρ K 5 c (hi (dv 2 c)) (half_got 5 c) rfl (by rfl) [] (by decide)) $$ [$He $HO $Hr]
  iintro ⟨HO, Hw, Hz⟩
  iapply (step_hi m ρ c (dv 2 c) 2 (by decide) fullShare (off := k0_off9 c 2#32 0#32) (off9_at c 1 0)) $$ Hw; iintro Hw
  iapply (step_hi m ρ c (dv 2 c) 3 (by decide) fullShare (off := k0_off9 c 2#32 1#32) (off9_at c 1 1)) $$ Hw; iintro Hw
  iapply step_ret
  iapply Hk $$ [$HO $Hz $Hw]

theorem part16_ok (c : Dev nD) (g : (cc0_stg3_0 : Ref sig .tc).ty.Contents (Elt F)) {Q} :
    iprop(env m ρ K ∗ Ow c [] ∗ stgPts c cc0_stg3_0 g ∗ (sentKit (.inl 0) c ∗ sentKit (.inl 1) c ∗ sentKit (.inl 2) c) ∗ sentKit (.inr 0) c)
      ⊢ iprop(((Ow c [] ∗ stgPts c cc0_stg3_0 (outAt m ρ c)
            ∗ (semVal (sendCell (.inl 0) c) 0 ∗ semVal (sendCell (.inl 1) c) 0 ∗ semVal (sendCell (.inl 2) c) 0 ∗ semVal (sendCell (.inr 0) c) 0)
            ∗ (rowPts c c (shr (.inl 0)) (cAll m ρ) ∗ rowPts c c (shr (.inl 1)) (cAll m ρ) ∗ rowPts c c (shr (.inl 2)) (cAll m ρ))
            ∗ halfPts c (lo c) (shr (.inr 0)) (wAll m ρ)) -∗ Q ⟨⟩)
        -∗ WP c (atBufs (k0_part16 (F := F)) c (acc9 m ρ c) (k0_pay25 (wOf m ρ (dv 2 c) 3)) (k0_pay26 (gate m ρ c) (rowsOf m ρ c) (acrossW c))) Q) := by
  unfold atBufs; rw [k0_part16_eq_skeleton]; unfold k0_part16_skel
  simp only [semSignalWord, semWaitWord, Prog.lift, Prog.bind_op, Prog.bind_ret, Prog.pure_eq_ret, wp_deviceId]
  unfold outAt
  iintro ⟨#He, HO, Ho, ⟨Hk0, Hk1, Hk2⟩, Hk3⟩
  iintro Hk
  iapply (wp_load 𝒱₀ (c : Thread nD τ) none Set.univ (m := Memref.whole cc0_stg3_0) (Finset.subset_univ _)) $$ Ho; iintro Ho
  iapply (wp_store 𝒱₀ (c : Thread nD τ) none Set.univ (m := Memref.whole cc0_stg3_0)
    (r := Rect.unit (s := S512x512) ![0, 0] S512x512.size inb_S512x512_S512x512_0_0) (Mk := Finset.univ) (Finset.subset_univ _)) $$ Ho; iintro Ho
  rw [write_out]
  iapply (step_sent_row m ρ K 0 c rfl (by rfl)) $$ [$He $HO $Hk0]
  iintro ⟨HO, Hc0, Hz0⟩
  iapply (step_sent_row m ρ K 1 c rfl (by rfl)) $$ [$He $HO $Hk1]
  iintro ⟨HO, Hc1, Hz1⟩
  iapply (step_sent_row m ρ K 2 c rfl (by rfl)) $$ [$He $HO $Hk2]
  iintro ⟨HO, Hc2, Hz2⟩
  iapply (step_sent_half m ρ K 0 c (lo c) (half_sent 0 c) rfl (by rfl)) $$ [$He $HO $Hk3]
  iintro ⟨HO, Hw, Hz3⟩
  iapply step_ret
  iapply Hk $$ [$HO $Ho $Hz0 $Hz1 $Hz2 $Hz3 $Hc0 $Hc1 $Hc2 $Hw]

end Cert.Moe

end
-- ==== Proof.Body.lean ====
/-
  THE WHOLE BODY: the parts one after another on a symbolic device `c`, from its stakes in the protocol and its buffers to
  the result it stores, every semaphore of its own at zero and its two scratch buffers whole again.
-/
module

public import proofs.«01_k».proof.Proof.Parts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Taking the scratch buffers apart and putting them together -/

theorem over_dirs (Φ : Fin 3 → sProp 𝕄) : bigSep Finset.univ Φ = iprop(Φ 0 ∗ Φ 1 ∗ Φ 2) := bigSep_univ_eq_bigSepL [0, 1, 2] (by decide) (by decide) Φ
theorem over_halves (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem over_kinds (Φ : T → sProp 𝕄) : bigSep Finset.univ Φ = iprop((bigSep Finset.univ fun k => Φ (.inl k)) ∗ bigSep Finset.univ fun k => Φ (.inr k)) :=
  BI.bigSep_univ_sum Φ
theorem over_transfers (Φ : T → sProp 𝕄) : bigSep Finset.univ Φ
    = iprop((Φ (.inl 0) ∗ Φ (.inl 1) ∗ Φ (.inl 2)) ∗ (Φ (.inr 0) ∗ Φ (.inr 1) ∗ Φ (.inr 2) ∗ Φ (.inr 3) ∗ Φ (.inr 4) ∗ Φ (.inr 5))) := by
  rw [over_kinds, over_dirs, over_halves]

/-- The windows device `c` gives up at the barrier, gathered by the neighbour that will write them. -/
theorem gathered (c : Dev nD) : (bigSep Finset.univ fun t : T => landing (F := F) t (src t c)) = bigSep Finset.univ fun k => barPay (F := F) k (dv (opp k) c) := by
  rw [bigSep_fiberwise Finset.univ dir, show Finset.univ.image dir = Finset.univ from by decide]
  refine bigSep_congr fun k _ => bigSep_congr fun t ht => ?_
  rw [← (Finset.mem_filter.mp ht).2]; rfl

/-- The scratch buffers at any contents: the own windows, and the windows the neighbours write. -/
theorem scratch_split (c : Dev nD) (g : (cc0_scratch0 : Ref sig .tc).ty.Contents (Elt F)) (f : (cc0_scratch1 : Ref sig .tc).ty.Contents (Elt F)) :
    iprop(((c : Thread nD τ).loc cc0_scratch0 ↦{fullShare} g) ∗ ((c : Thread nD τ).loc cc0_scratch1 ↦{fullShare} f))
      ⊢ (iprop(halfPts c (lo c) fullShare g ∗ halfPts c (hi c) fullShare g ∗ rowPts c c fullShare f
          ∗ bigSep Finset.univ fun k => barPay (F := F) k (dv (opp k) c)) : sProp 𝕄) := by
  rw [← gathered, over_kinds, whole_halves, whole_rows, halves_around c, rows_around c]
  iintro ⟨⟨Hlo, Hhi, Hh⟩, Hc, Hr⟩
  isplitl [Hlo]; · iexact Hlo
  isplitl [Hhi]; · iexact Hhi
  isplitl [Hc]; · iexact Hc
  isplitl [Hr]
  · iapply (show (bigSep Finset.univ fun k : Fin 3 => rowPts c (src (.inl k) c) fullShare f : sProp 𝕄) ⊢ bigSep Finset.univ fun k : Fin 3 => landing (.inl k) (src (.inl k) c)
      from bigSep_mono fun k _ => by show _ ⊢ iprop(∃ f, rowPts (peer (.inl k) (src (.inl k) c)) (src (.inl k) c) fullShare f); rw [peer_src]; iintro H; iexists f; iexact H) $$ Hr
  · iapply (show (bigSep Finset.univ fun k : Fin 6 => halfPts c (half k (src (.inr k) c)) fullShare g : sProp 𝕄) ⊢ bigSep Finset.univ fun k : Fin 6 => landing (.inr k) (src (.inr k) c)
      from bigSep_mono fun k _ => by show _ ⊢ iprop(∃ f, halfPts (peer (.inr k) (src (.inr k) c)) (half k (src (.inr k) c)) fullShare f); rw [peer_src]; iintro H; iexists g; iexact H) $$ Hh

/-- A window held in the four shares its transfers and its loads used. -/
theorem half_whole (d : Dev nD) (b : Fin 8) (f : (cc0_scratch0 : Ref sig .tc).ty.Contents (Elt F)) :
    (iprop(halfPts d b (fullShare : PosShare TreeShare).left f ∗ halfPts d b (fullShare : PosShare TreeShare).right f) : sProp 𝕄) ⊢ halfPts d b fullShare f :=
  (half_share d b fullShare f).2

theorem halves_whole (c : Dev nD) (f : (cc0_scratch0 : Ref sig .tc).ty.Contents (Elt F)) :
    (iprop(halfPts c (lo c) fullShare f ∗ halfPts c (hi c) fullShare f ∗ halfPts c (lo (dv 1 c)) fullShare f ∗ halfPts c (hi (dv 1 c)) fullShare f
        ∗ halfPts c (hi (dv 0 c)) fullShare f ∗ halfPts c (lo (dv 0 c)) fullShare f ∗ halfPts c (lo (dv 2 c)) fullShare f ∗ halfPts c (hi (dv 2 c)) fullShare f) : sProp 𝕄)
      ⊢ ((c : Thread nD τ).loc cc0_scratch0 ↦{fullShare} f) := by
  rw [whole_halves, halves_around c, over_halves]
  simp only [half_got]
  exact Entails.refl _

theorem counts_share (c : Dev nD) (f : (cc0_scratch1 : Ref sig .tc).ty.Contents (Elt F)) :
    (iprop(((c : Thread nD τ).loc cc0_scratch1 ↦{(fullShare : PosShare TreeShare).left} f) ∗ ((c : Thread nD τ).loc cc0_scratch1 ↦{(fullShare : PosShare TreeShare).right} f)) : sProp 𝕄)
      ⊢ ((c : Thread nD τ).loc cc0_scratch1 ↦{fullShare} f) :=
  (pointsTo_share (PosShare.mem_left_op_right fullShare)).2

/-! ## The run -/

theorem sig_kit (k : Fin 3) (c : Dev nD) :
    iprop(dutyTok ER (barCell (dv (opp k) c)) 0 k ∗ barPay (F := F) k (dv (opp k) c)) ⊢ sigKit k c := Entails.refl _

theorem step_bind (c : Dev nD) {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := by
  rw [show WP c (p >>= k) Q = _ from wp_bind ..]

/-- What device `c` brings to the body: its stakes in the protocol, and its two scratch buffers. -/
def stakes (c : Dev nD) : sProp 𝕄 :=
  iprop((bigSep Finset.univ fun k => dutyTok ER (barCell (dv (opp k) c)) 0 k) ∗ barKit c ∗ (bigSep Finset.univ fun t => sendKit (F := F) t c)
    ∗ bigSep Finset.univ fun t => recvKit (F := F) t c)
def scratch (c : Dev nD) : sProp 𝕄 :=
  iprop((∃ g : (cc0_scratch0 : Ref sig .tc).ty.Contents (Elt F), (c : Thread nD τ).loc cc0_scratch0 ↦{fullShare} g)
    ∗ (∃ f : (cc0_scratch1 : Ref sig .tc).ty.Contents (Elt F), (c : Thread nD τ).loc cc0_scratch1 ↦{fullShare} f))
/-- What it leaves: every semaphore of the exchange at zero. -/
def zeros (c : Dev nD) : sProp 𝕄 :=
  iprop(semVal (barCell c) 0 ∗ (bigSep Finset.univ fun t => semVal (sendCell t c) 0) ∗ bigSep Finset.univ fun t => semVal (recvCell t c) 0)

theorem body_ok (c : Dev nD) (g : (cc0_stg3_0 : Ref sig .tc).ty.Contents (Elt F)) (Q : PUnit → sProp 𝕄) :
    iprop(env m ρ K ∗ Ow c evs ∗ stakes c ∗ scratch c ∗ stgPts c cc0_stg0_0 (xstg m ρ c) ∗ stgPts c cc0_stg1_0 (rstg m ρ c)
        ∗ stgPts c cc0_stg2_0 (wstg m ρ c) ∗ stgPts c cc0_stg3_0 g)
      ⊢ iprop(((Ow c [] ∗ zeros c ∗ scratch c ∗ stgPts c cc0_stg0_0 (xstg m ρ c) ∗ stgPts c cc0_stg1_0 (rstg m ρ c)
            ∗ stgPts c cc0_stg2_0 (wstg m ρ c) ∗ stgPts c cc0_stg3_0 (outAt m ρ c)) -∗ Q ⟨⟩)
        -∗ WP c (atBufs (cc0_body (F := F))) Q) := by
  unfold atBufs; rw [cc0_body_eq_skeleton]; unfold cc0_body_skel
  rw [k0_part17_eq_skeleton]; unfold k0_part17_skel
  simp only [Prog.lift, Prog.bind_op, Prog.bind_ret, Prog.pure_eq_ret]
  unfold stakes scratch zeros
  simp only [over_dirs, over_transfers]
  iintro ⟨#He, HO, ⟨⟨Hd0, Hd1, Hd2⟩, Hb, ⟨⟨Hs0, Hs1, Hs2⟩, Hw0, Hw1, Hw2, Hw3, Hw4, Hw5⟩, ⟨Hr0, Hr1, Hr2⟩, Hv0, Hv1, Hv2, Hv3, Hv4, Hv5⟩,
    ⟨⟨%gw, Hgw⟩, ⟨%gc, Hgc⟩⟩, Hx, Hrt, Hw, Ho⟩
  iintro Hk
  ihave Hsplit := (scratch_split c gw gc) $$ [$Hgw $Hgc]
  rw [over_dirs]
  icases Hsplit with ⟨Hlo, Hhi, Hc, Hp0, Hp1, Hp2⟩
  ihave Hd0 := (sig_kit 0 c) $$ [$Hd0 $Hp0]
  ihave Hd1 := (sig_kit 1 c) $$ [$Hd1 $Hp1]
  ihave Hd2 := (sig_kit 2 c) $$ [$Hd2 $Hp2]
  iapply step_bind
  iapply step_bind
  iapply (part1_ok m ρ K c gc) $$ [$He $HO $Hd0 $Hd1 $Hd2 $Hb $Hrt $Hc]
  iintro ⟨HO, Hzb, Hl, Hrt, Hc⟩
  ihave Hl := (Entails.of_eq (over_transfers fun t => landing (F := F) t c)) $$ Hl
  icases Hl with ⟨⟨Hlr0, Hlr1, Hlr2⟩, Hl0, Hl1, Hl2, Hl3, Hl4, Hl5⟩
  dsimp only
  iapply step_bind
  iapply (part2_ok m ρ K c gc gw _ _ _ _) $$ [$He $HO $Hc $Hs0 $Hs1 $Hs2 $Hlr0 $Hlr1 $Hlr2 $Hw $Hlo $Hhi]
  iintro ⟨HO, HcR, ⟨Hs0, Hs1, Hs2⟩, Hw, Hlo, Hhi⟩
  iapply step_bind
  iapply (part3_ok m ρ K c _ _ _) $$ [$He $HO $Hw0 $Hw1 $Hw2 $Hl0 $Hl1 $Hl2 $Hlo $Hhi]
  iintro ⟨HO, ⟨Hw0, Hw1, Hw2⟩, Hlo3, HloR, HhiR⟩
  iapply step_bind
  iapply (part4_ok m ρ K c _ _ _ _ _) $$ [$He $HO $Hw3 $Hl3 $Hlo3 $Hr0 $Hr1 $Hr2 $HcR]
  iintro ⟨HO, Hw3, ⟨Hzr0, Hzr1, Hzr2⟩, ⟨Hc0, Hc1, Hc2⟩, HcR⟩
  dsimp only
  iapply step_bind
  iapply (part5_ok m ρ c) $$ Hx
  iintro Hx %_
  dsimp only
  iapply step_bind
  iapply (part6_ok m ρ c _) $$ HloR
  iintro HloR %_
  dsimp only
  iapply step_bind
  iapply (part7_ok m ρ c _ _) $$ HhiR
  iintro HhiR %_ %_
  dsimp only
  iapply step_bind
  iapply (part8_ok m ρ K c _ _ _ _) $$ [$He $HO $Hv0 $Hv2 $Hw4 $Hw5 $Hl4 $Hl5]
  iintro ⟨HO, ⟨Hz0, Hz2⟩, ⟨Hw4, Hw5⟩, HlloR, HrhiR⟩
  iapply step_bind
  iapply (part9_ok m ρ K c _) $$ [$He $HO $Hv1 $HlloR]
  iintro ⟨HO, Hz1, Hlhi, HlloR⟩ %_
  dsimp only
  iapply step_bind
  iapply (part10_ok m ρ c _) $$ [$HlloR $Hlhi]
  iintro ⟨HlloR, Hlhi⟩ %_
  dsimp only
  iapply step_bind
  iapply (part11_ok m ρ K c _ _) $$ [$He $HO $Hv3 $Hlhi]
  iintro ⟨HO, Hz3, Hlhi, Hrlo⟩
  dsimp only
  iapply step_bind
  iapply (part12_ok m ρ c) $$ [$Hrlo $HrhiR]
  iintro ⟨Hrlo, HrhiR⟩
  dsimp only
  iapply step_bind
  iapply (part13_ok m ρ K c _) $$ [$He $HO $Hv4 $HrhiR]
  iintro ⟨HO, Hz4, HrhiR, Halo⟩ %_
  dsimp only
  iapply step_bind
  iapply (part14_ok m ρ c _ _) $$ Halo
  iintro Halo
  iapply step_bind
  iapply (part15_ok m ρ K c) $$ [$He $HO $Hv5]
  iintro ⟨HO, Hz5, Hahi⟩
  dsimp only
  iapply step_bind
  iapply (part16_ok m ρ K c g) $$ [$He $HO $Ho $Hs0 $Hs1 $Hs2 $Hw0]
  iintro ⟨HO, Ho, ⟨Hzs0, Hzs1, Hzs2, Hzw0⟩, ⟨Hcs0, Hcs1, Hcs2⟩, Hlo0⟩
  iapply (step_sent_half m ρ K 1 c (hi c) (half_sent 1 c) rfl (by rfl)) $$ [$He $HO $Hw1]
  iintro ⟨HO, Hhi1, Hzw1⟩
  iapply (step_sent_half m ρ K 2 c (hi c) (half_sent 2 c) rfl (by rfl)) $$ [$He $HO $Hw2]
  iintro ⟨HO, Hhi2, Hzw2⟩
  iapply (step_sent_half m ρ K 3 c (lo c) (half_sent 3 c) rfl (by rfl)) $$ [$He $HO $Hw3]
  iintro ⟨HO, Hlo3, Hzw3⟩
  iapply (step_sent_half m ρ K 4 c (lo (dv 1 c)) (half_sent 4 c) rfl (by rfl)) $$ [$He $HO $Hw4]
  iintro ⟨HO, Hllo, Hzw4⟩
  iapply step_ret
  iapply (step_sent_half m ρ K 5 c (hi (dv 0 c)) (half_sent 5 c) rfl (by rfl)) $$ [$He $HO $Hw5]
  iintro ⟨HO, Hrhi, Hzw5⟩
  iapply step_ret
  ihave Hlo := (half_share c (lo c) (fullShare : PosShare TreeShare).left (wAll m ρ)).2 $$ [$Hlo0 $Hlo3]
  ihave Hlo := (half_whole c (lo c) (wAll m ρ)) $$ [$Hlo $HloR]
  ihave Hhi := (half_share c (hi c) (fullShare : PosShare TreeShare).left (wAll m ρ)).2 $$ [$Hhi1 $Hhi2]
  ihave Hhi := (half_whole c (hi c) (wAll m ρ)) $$ [$Hhi $HhiR]
  ihave Hllo := (half_whole c (lo (dv 1 c)) (wAll m ρ)) $$ [$Hllo $HlloR]
  ihave Hrhi := (half_whole c (hi (dv 0 c)) (wAll m ρ)) $$ [$Hrhi $HrhiR]
  ihave Hgw := (halves_whole c (wAll m ρ)) $$ [$Hlo $Hhi $Hllo $Hlhi $Hrhi $Hrlo $Halo $Hahi]
  ihave Hcs := (row_share c c (fullShare : PosShare TreeShare).left.right (cAll m ρ)).2 $$ [$Hcs1 $Hcs2]
  ihave Hcs := (row_share c c (fullShare : PosShare TreeShare).left (cAll m ρ)).2 $$ [$Hcs0 $Hcs]
  ihave Hcs := (Entails.of_eq (rows_whole c (fullShare : PosShare TreeShare).left (cAll m ρ)).symm) $$ [$Hcs $Hc0 $Hc1 $Hc2]
  ihave Hgc := (counts_share c (cAll m ρ)) $$ [$Hcs $HcR]
  iapply Hk
  isplitl [HO]; · iexact HO
  isplitl [Hzb Hzs0 Hzs1 Hzs2 Hzw0 Hzw1 Hzw2 Hzw3 Hzw4 Hzw5 Hzr0 Hzr1 Hzr2 Hz0 Hz1 Hz2 Hz3 Hz4 Hz5]
  · iframe Hzb Hzs0 Hzs1 Hzs2 Hzw0 Hzw1 Hzw2 Hzw3 Hzw4 Hzw5 Hzr0 Hzr1 Hzr2 Hz0 Hz1 Hz2 Hz3 Hz4 Hz5
  isplitl [Hgw Hgc]
  · isplitl [Hgw]
    · iexists _; iexact Hgw
    · iexists _; iexact Hgc
  iframe Hx Hrt Hw Ho

end Cert.Moe

end
-- ==== Proof.Launch.lean ====
/-
  THE RUN: the protocol's tokens dealt at launch, each device's body between the staging of its operands and the write of
  its result, and what every final state holds.
-/
module

public import proofs.«01_k».proof.Proof.Body
public import proofs.«01_k».proof.Proof.Gen.KernelIdeal.Frame
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- What device `c` starts from: the cells' invariants and the levels, and its stakes. -/
def start (c : Dev nD) : sProp 𝕄 := iprop((∃ K, env m ρ K) ∗ stakes c)
def Φ₀ (c : Dev nD) : sProp 𝕄 := iprop(start m ρ c ∗ scratch c)
def Φ₁ (c : Dev nD) : sProp 𝕄 := iprop(zeros (F := F) c ∗ scratch c)

def t₀ : Fin cfg0.N := t0_0
theorem fin_N (t : Fin cfg0.N) : t = t₀ := fin_N0 t

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem over_windows (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_intro (c : Dev nD) (b : Ref sig .tc) (X : b.ty.Contents (Elt F)) : stgPts c b X ⊢ stg c b X := by
  iintro H; iexists _; isplitr; · (ipureintro; rfl)
  iexact H

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))
def bodyPost (c : Dev nD) : sProp 𝕄 :=
  iprop(Φ₁ c ∗ (dats m ρ 0 c).owesAt () t₀.succ ∗ stg c cc0_stg0_0 (xstg m ρ c) ∗ stg c cc0_stg1_0 (rstg m ρ c)
    ∗ stg c cc0_stg2_0 (wstg m ρ c) ∗ stg c cc0_stg3_0 (outAt m ρ c))

/-- A fetched operand is staged as the launch memory holds it. -/
theorem before_0 (c : Dev nD) (d) : (dats m ρ 0 c).before (0 : Fin 4) t₀ d = xstg m ρ c := by
  unfold Dat.before; rw [if_pos (show (cfg0.win (0 : Fin 4)).fetch t₀ = true from rfl)]; rfl
theorem before_1 (c : Dev nD) (d) : (dats m ρ 0 c).before (1 : Fin 4) t₀ d = rstg m ρ c := by
  unfold Dat.before; rw [if_pos (show (cfg0.win (1 : Fin 4)).fetch t₀ = true from rfl)]; rfl
theorem before_2 (c : Dev nD) (d) : (dats m ρ 0 c).before (2 : Fin 4) t₀ d = wstg m ρ c := by
  unfold Dat.before; rw [if_pos (show (cfg0.win (2 : Fin 4)).fetch t₀ = true from rfl)]; rfl

theorem owes_before (c : Dev nD) : (dats m ρ 0 c).owesAt () t₀.castSucc ⊢ Ow (F := F) c evs := by
  unfold Dat.owesAt Pipeline.owesWithin Ow
  rw [show (dats m ρ 0 c).owed t₀.castSucc = O₀ c from rfl]; unfold O₀
  iintro ⟨%W, %hW, H⟩; iexists W; iexact H
theorem owes_after (c : Dev nD) : Ow (F := F) c [] ⊢ (dats m ρ 0 c).owesAt () t₀.succ := by
  unfold Dat.owesAt Pipeline.owesWithin Ow
  rw [show (dats m ρ 0 c).owed t₀.succ = 0 from rfl, show owed c [] = 0 from rfl]
  iintro ⟨%W, H⟩; iexists W
  isplitr; · ipureintro; exact fun _ _ => Or.inl trivial
  iexact H

theorem body_obligation (c : Dev nD) : BodyObligation (dats (F := F) m ρ 0 c) (defs₀ (F := F)) 𝒱₀ () Set.univ := fun t => by
  rw [fin_N t]
  rw [over_windows, over_windows]
  simp only [owns_whole_eq]
  show bodyPre m ρ c ⊢ WP c (atBufs (cc0_body (F := F))) (fun _ => bodyPost m ρ c)
  unfold bodyPre Φ₀ start
  iintro ⟨⟨⟨⟨%K, #He⟩, Hst⟩, Hscr⟩, Ho, ⟨%d0, %g0, %h0, Hx⟩, ⟨%d1, %g1, %h1, Hr⟩, ⟨%d2, %g2, %h2, Hw⟩, ⟨%d3, %g3, %h3, Hout⟩⟩
  rw [before_0] at h0; rw [before_1] at h1; rw [before_2] at h2
  subst h0; subst h1; subst h2
  ihave HO := (owes_before m ρ c) $$ Ho
  iapply (body_ok m ρ K c g3 fun _ => bodyPost m ρ c) $$ [$He $HO $Hst $Hscr $Hx $Hr $Hw $Hout]
  iintro ⟨HO, Hz, Hscr, Hx, Hr, Hw, Hout⟩
  unfold bodyPost Φ₁
  isplitl [Hz Hscr]; · isplitl [Hz] <;> iassumption
  isplitl [HO]; · iapply (owes_after m ρ c) $$ HO
  isplitl [Hx]; · iapply (stg_intro c cc0_stg0_0 _) $$ Hx
  isplitl [Hr]; · iapply (stg_intro c cc0_stg1_0 _) $$ Hr
  isplitl [Hw]; · iapply (stg_intro c cc0_stg2_0 _) $$ Hw
  iapply (stg_intro c cc0_stg3_0 _) $$ Hout

/-! ## The launch: cells and tokens -/

theorem ownSemFacts : Pipeline.OwnSemFacts cfg0.spec osem := by decide

theorem share_eq (c : Dev nD) (w : Fin cfg0.W) : (dats m ρ 0 c).share w = fullShare := by unfold Dat.share; split <;> rfl

def cellAt (ci : Dev nD × CI) : GSem nD τ sig := cell ci.1 ci.2
theorem cellAt_injective : Function.Injective cellAt := fun ⟨_, _⟩ ⟨_, _⟩ h => Prod.ext (cell_inj h).1 (cell_inj h).2
def moeCells : Finset (GSem nD τ sig) := Finset.univ.map ⟨cellAt, cellAt_injective⟩

/-- One device's cells' duties: the three of its barrier, one of each transfer's send and receive semaphore. -/
abbrev Tok : Type := Fin 3 ⊕ (T ⊕ T)
def tokAt : Dev nD × Tok → GSem nD τ sig × ℕ × Fin 3
  | (c, .inl k) => (barCell c, 0, k)
  | (c, .inr x) => (cell c (.inr x), 0, 0)
theorem tokAt_injective : Function.Injective tokAt := by
  rintro ⟨c, x | x⟩ ⟨c', x' | x'⟩ h
  · have h1 := cell_inj (congrArg Prod.fst h)
    have h2 : x = x' := congrArg (fun y : GSem nD τ sig × ℕ × Fin 3 => y.2.2) h
    rw [h1.1, h2]
  · exact absurd (cell_inj (congrArg Prod.fst h)).2 (by rintro ⟨⟩)
  · exact absurd (cell_inj (congrArg Prod.fst h)).2 (by rintro ⟨⟩)
  · have h1 := cell_inj (congrArg Prod.fst h)
    rw [h1.1, Sum.inr.inj h1.2]
def moeToks : Finset (GSem nD τ sig × ℕ × Fin 3) := Finset.univ.map ⟨tokAt, tokAt_injective⟩

def u₀ : UU :=
  (initOf (Pipeline.cells cfgs cellOf_inj) (Pipeline.launchToks cfgs cellOf_inj), initOf moeCells moeToks)

/-- A token, as held. -/
def tokOf (x : Dev nD × Tok) : sProp 𝕄 := dutyTok ER (tokAt x).1 (tokAt x).2.1 (tokAt x).2.2

/-- What the launch element deals device `c`. -/
def G (c : Dev nD) : sProp 𝕄 :=
  iprop((bigSep Finset.univ fun i : CI => roundState ER (sched m ρ) (cell c i) 0)
    ∗ ((bigSep Finset.univ fun i : CI => atPos ER (cell c i) 0 ∅ 0) ∗ (bigSep Finset.univ fun i : CI => reached ER (cell c i) 0))
    ∗ bigSep Finset.univ fun j : Tok => tokOf (F := F) (c, j))

theorem fund_moe : BI.own (ER (initOf moeCells moeToks)) ⊢ (|==> bigSep Finset.univ (G m ρ) : sProp 𝕄) := by
  have hX (Φ : GSem nD τ sig → sProp 𝕄) : bigSep moeCells Φ = bigSep Finset.univ fun c : Dev nD => bigSep Finset.univ fun i : CI => Φ (cell c i) := by
    unfold moeCells; rw [bigSep_map, bigSep_univ_prod]; rfl
  have hT : bigSep moeToks (fun x => (dutyTok ER x.1 x.2.1 x.2.2 : sProp 𝕄)) = bigSep Finset.univ fun c : Dev nD => bigSep Finset.univ fun j : Tok => tokOf (c, j) := by
    unfold moeToks; rw [bigSep_map, bigSep_univ_prod]; rfl
  iintro HX
  imod (Rounds.fund ER (sched m ρ) moeCells moeToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop((bigSep Finset.univ fun t => semVal (sendCell t c) 0) ∗ bigSep Finset.univ fun t => semVal (recvCell t c) 0) := by
  unfold Pipeline.ownSems0; exact BI.bigSep_univ_sum _

/-- Something of every cell of a device: of its barrier, of its sends, of its receives. -/
theorem over_cells (Φ : CI → sProp 𝕄) : bigSep Finset.univ Φ
    = iprop(Φ (.inl ()) ∗ (bigSep Finset.univ fun t => Φ (.inr (.inl t))) ∗ bigSep Finset.univ fun t => Φ (.inr (.inr t))) := by
  rw [show bigSep Finset.univ Φ = iprop((bigSep Finset.univ fun u => Φ (.inl u)) ∗ bigSep Finset.univ fun x => Φ (.inr x)) from BI.bigSep_univ_sum Φ,
    show (bigSep Finset.univ fun x => Φ (.inr x)) = iprop((bigSep Finset.univ fun t => Φ (.inr (.inl t))) ∗ bigSep Finset.univ fun t => Φ (.inr (.inr t))) from
      BI.bigSep_univ_sum fun x => Φ (.inr x), show (Finset.univ : Finset Unit) = {()} from rfl, bigSep_singleton]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (sched m ρ) κ (cell c i)))
          ∗ ((bigSep Finset.univ fun i : CI => atPos ER (cell c i) 0 ∅ 0) ∗ (bigSep Finset.univ fun i : CI => reached ER (cell c i) 0))
          ∗ bigSep Finset.univ fun j : Tok => tokOf (F := F) (c, j)) := by
  unfold G
  rw [ownSems0_eq, unscopedSems0_eq]
  iintro ⟨⟨HS, HV⟩, HB, Hst, Hat, Htok⟩
  ihave Hv := (Entails.of_eq (over_cells (F := F) fun i => semVal (cell c i) 0).symm) $$ [$HB $HS $HV]
  imod (show iprop((bigSep Finset.univ fun i : CI => semVal (cell c i) 0) ∗ bigSep Finset.univ fun i : CI => roundState ER (sched m ρ) (cell c i) 0)
      ⊢ (|={Set.univ}=> bigSep Finset.univ fun i => iprop(∃ κ : ℕ, cellInv ER (sched m ρ) κ (cell c i)) : sProp 𝕄) from by
        rw [← bigSep_sep']
        exact (bigSep_mono fun i _ => (Rounds.body_intro ER (sched m ρ) (cell c i)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- Whose cell the duty is that device `c` pays. -/
def payee : Tok → (Dev nD ≃ Dev nD)
  | .inl k => dvEquiv (opp k)
  | .inr (.inl _) => Equiv.refl _
  | .inr (.inr t) => dvEquiv (dir t)
def around : (Dev nD × Tok) ≃ (Dev nD × Tok) where
  toFun x := (payee x.2 x.1, x.2)
  invFun x := ((payee x.2).symm x.1, x.2)
  left_inv x := by simp
  right_inv x := by simp

theorem toks_around : (bigSep Finset.univ fun c : Dev nD => bigSep Finset.univ fun j : Tok => tokOf (F := F) (c, j))
    = bigSep Finset.univ fun c : Dev nD => bigSep Finset.univ fun j : Tok => tokOf (F := F) (payee j c, j) := by
  rw [← bigSep_univ_prod (fun x : Dev nD × Tok => tokOf (F := F) x), bigSep_univ_equiv around (fun x : Dev nD × Tok => tokOf (F := F) x), bigSep_univ_prod]; rfl

/-- What stays with device `c`: its positions, and the tokens of the duties it pays. -/
def linear (c : Dev nD) : sProp 𝕄 :=
  iprop((bigSep Finset.univ fun i : CI => atPos ER (cell c i) 0 ∅ 0) ∗ bigSep Finset.univ fun j : Tok => tokOf (F := F) (payee j c, j))
/-- What the global step makes of the launch for device `c`. -/
def G' (c : Dev nD) : sProp 𝕄 := iprop((∃ K, records m ρ K) ∗ linear (F := F) c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (sched m ρ) κ (cell c i)))
          ∗ ((bigSep Finset.univ fun i : CI => atPos ER (cell c i) 0 ∅ 0) ∗ (bigSep Finset.univ fun i : CI => reached ER (cell c i) 0))
          ∗ bigSep Finset.univ fun j : Tok => tokOf (F := F) (c, j)) : sProp 𝕄)
      ⊢ bigSep Finset.univ (G' m ρ) := by
  rw [bigSep_sep', bigSep_sep', bigSep_sep', toks_around, ← bigSep_univ_prod (fun ci : Dev nD × CI => iprop(∃ κ : ℕ, cellInv ER (sched m ρ) κ (cell ci.1 ci.2))),
    ← bigSep_univ_prod (fun ci : Dev nD × CI => (reached ER (cell ci.1 ci.2) 0 : sProp 𝕄))]
  iintro ⟨HI, ⟨Hat, #HR⟩, Htok⟩
  ihave HK := (BI.bigSep_exists_pi Finset.univ (fun (ci : Dev nD × CI) (κ : ℕ) => (cellInv ER (sched m ρ) κ (cell ci.1 ci.2) : sProp 𝕄))) $$ HI
  icases HK with ⟨%K, #HI⟩
  iapply (bigSep_with_persistent (R := records m ρ K) (Φ := linear) fun c _ => show iprop(records m ρ K ∗ linear c) ⊢ G' m ρ c from by
    unfold G'; iintro ⟨#Hr, Hl⟩; isplitr; · (iexists K; iexact Hr)
    iexact Hl)
  isplitr
  · unfold records; isplitl; · iexact HI
    iexact HR
  · unfold linear; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Which of its receiver's cells an event credits, and the receiver as a permutation of the devices. -/
def evIx : Ev → CI := Sum.elim (fun _ => .inl ()) (fun t => .inr (.inr t))
def evDev : Ev → (Dev nD ≃ Dev nD) := Sum.elim (fun k => dvEquiv (opp k)) (fun t => dvEquiv (dir t))
theorem evCell_eq (e : Ev) (d : Dev nD) : evCell d e = cell (evDev e d) (evIx e) := by cases e <;> rfl

/-- Over all devices, an event credits each device's cell of its kind once. -/
theorem event_total (e : Ev) (c : Dev nD) (i : CI) :
    (∑ d : Dev nD, tallyAt (evCell d e) () (evAmt e) (cell c i) ()) = if evIx e = i then evAmt e else 0 := by
  have h (d : Dev nD) : tallyAt (evCell d e) () (evAmt e) (cell c i) () = if d = (evDev e).symm c then (if evIx e = i then evAmt e else 0) else 0 := by
    rw [evCell_eq]
    by_cases hd : d = (evDev e).symm c
    · subst hd
      rw [if_pos rfl, Equiv.apply_symm_apply]
      by_cases hi : evIx e = i
      · subst hi; rw [if_pos rfl, tallyAt_apply, if_pos ⟨rfl, rfl⟩]
      · rw [if_neg hi, tallyAt_ne_cell (fun h => hi (cell_inj h).2.symm), Finsupp.zero_apply]
    · rw [if_neg hd, tallyAt_ne_cell (fun h => hd (by rw [(cell_inj h).1, Equiv.symm_apply_apply])), Finsupp.zero_apply]
  rw [Finset.sum_congr rfl fun d _ => h d, Finset.sum_ite_eq' Finset.univ, if_pos (Finset.mem_univ _)]

theorem owed_total (l : List Ev) (c : Dev nD) (i : CI) :
    (∑ d : Dev nD, owed d l (cell c i) ()) = (l.map fun e => if evIx e = i then evAmt e else 0).sum := by
  induction l with
  | nil => exact Finset.sum_eq_zero fun _ _ => rfl
  | cons e l ih =>
    rw [List.map_cons, List.sum_cons, ← ih, ← event_total e c i, add_comm, ← Finset.sum_add_distrib]
    exact Finset.sum_congr rfl fun d _ => by
      rw [show owed d (e :: l) = owed d l + tallyAt (evCell d e) () (evAmt e) from rfl, Pi.add_apply, Finsupp.add_apply]

theorem launch_cell (c : Dev nD) (i : CI) (n : ℕ) (h : (evs.map fun e => if evIx e = i then evAmt e else 0).sum = n) :
    tallyOn (cell c i) (launchCredit (Pipeline.owing O₀) 0 (cell c i)) = (tallyAt (cell c i) () n : CellTallies nD τ sig Unit) := by
  unfold tallyAt; refine congrArg _ (Finsupp.ext fun u => ?_); cases u
  rw [Pipeline.launchCredit_owing, Finsupp.single_eq_same, ← h]
  exact owed_total evs c i

theorem total_bar : (evs.map fun e => if evIx e = .inl () then evAmt e else 0).sum = 3 := by simp [evs, evIx, evAmt]
theorem total_recv (t : T) : (evs.map fun e => if evIx e = .inr (.inr t) then evAmt e else 0).sum = N t := by
  rcases t with k | k <;> fin_cases k <;> simp [evs, evIx, evAmt]

def recvLoc : T ↪ SemLoc sig := ⟨fun t => osem (.inr t), fun _ _ h => Sum.inr.inj (osem_inj h)⟩

theorem creds (c : Dev nD) :
    (Pipeline.launchCred O₀ c : sProp 𝕄) ⊢ iprop(cred (tallyAt (barCell c) () 3) ∗ bigSep Finset.univ fun t => cred (tallyAt (recvCell t c) () (N t))) := by
  unfold Pipeline.launchCred
  rw [bigSep_univ_at _ (SemLoc.reg barS)]
  refine BI.sep_mono (Entails.of_eq (congrArg cred (launch_cell c (.inl ()) 3 total_bar))) ?_
  refine (bigSep_subset (t := Finset.univ.map recvLoc) fun x hx => ?_).trans ?_
  · obtain ⟨t, -, rfl⟩ := Finset.mem_map.mp hx
    exact Finset.mem_erase.mpr ⟨fun h => (by cases t <;> cases h), Finset.mem_univ _⟩
  · rw [bigSep_map]
    exact bigSep_mono fun t _ => Entails.of_eq (congrArg cred (launch_cell c (.inr (.inr t)) (N t) (total_recv t)))

/-- The dealt positions, tokens and credits are a device's stakes. -/
theorem stakes_intro (c : Dev nD) : iprop(linear (F := F) c ∗ Pipeline.launchCred O₀ c) ⊢ stakes (F := F) c := by
  unfold linear stakes barKit sendKit recvKit
  rw [over_cells, show (bigSep Finset.univ fun j : Tok => tokOf (F := F) (payee j c, j)) = iprop((bigSep Finset.univ fun k : Fin 3 => tokOf (payee (.inl k) c, .inl k))
      ∗ bigSep Finset.univ fun x : T ⊕ T => tokOf (payee (.inr x) c, .inr x)) from BI.bigSep_univ_sum _,
    show (bigSep Finset.univ fun x : T ⊕ T => tokOf (F := F) (payee (.inr x) c, .inr x)) = iprop((bigSep Finset.univ fun t : T => tokOf (payee (.inr (.inl t)) c, .inr (.inl t)))
      ∗ bigSep Finset.univ fun t : T => tokOf (payee (.inr (.inr t)) c, .inr (.inr t))) from BI.bigSep_univ_sum _, bigSep_sep', bigSep_sep', bigSep_sep']
  iintro ⟨⟨⟨Hb, Hs, Hv⟩, Htb, Hts, Htv⟩, Hcr⟩
  ihave Hc := (creds (F := F) c) $$ Hcr
  icases Hc with ⟨Hcb, Hcv⟩
  isplitl [Htb]; · iexact Htb
  isplitl [Hcb Hb]; · isplitl [Hcb] <;> iassumption
  isplitl [Hts Htv Hs]
  · isplitl [Hts]; · iexact Hts
    isplitl [Htv]; · iexact Htv
    iexact Hs
  · isplitl [Hcv] <;> iassumption

/-! ## The launch theorem's side conditions -/

/-- The router input the kernel does not use. -/
def unused (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ unused m c) := by
  unfold G' start env unused
  rw [show (Pipeline.unscopedRestP Pipeline.Prefetch.none cfg0.spec c (fun b => m ((c : Thread nD τ).loc b)) : sProp 𝕄)
    = (((c : Thread nD τ).loc main_arg1) ↦{fullShare} m ((c : Thread nD τ).loc main_arg1)) from
      Pipeline.unscopedRestP_eq_of_list spec0 c Pipeline.Prefetch.none _ [main_arg1] (by decide) (by decide)]
  iintro ⟨Hu, Hlev, Hcr, -, ⟨%K, Hr⟩, Hl⟩
  ihave Hs := (stakes_intro (F := F) c) $$ [$Hl $Hcr]
  imodintro
  isplitr [Hu]
  · isplitr [Hs]
    · iexists K
      isplitl [Hr] <;> iassumption
    · iexact Hs
  · iexact Hu

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros scratch
  iintro ⟨⟨HB, HS, HV⟩, Hr⟩
  isplitl [HB]; · iexact HB
  isplitl [HS HV]
  · isplitl [HS] <;> iassumption
  iexact Hr

/-- The staging semaphores are none of the exchange's. -/
theorem stage_level : ∀ (w : Fin 4) (s : Fin ((spec0 w).nbuf)), dec (SemLoc.dma ((spec0 w).sem s)) = none := by
  have h : ∀ (w : Fin 4) (s : Fin ((spec0 w).nbuf)) (i : CI), csem i ≠ SemLoc.dma ((spec0 w).sem s) := by decide
  intro w s
  unfold dec
  exact List.find?_eq_none.mpr fun i _ => by simpa using h w s i

theorem waits (c : Dev nD) : (levAts L lv : sProp 𝕄) ⊢ Pipeline.cellsWaits cfgs (dats m ρ) () 0 c :=
  Pipeline.cellsWaits_intro cfgs (dats m ρ) () 0 c fun w s t => by
    have h (l : List Ev) : (levAts L lv : sProp 𝕄) ⊢ MayWait (c : Thread nD τ) (.dma ((spec0 w).sem s)) () (owed c l) :=
      mayWait c _ l 0 (by show (dec _).elim 0 lvOf ≤ 0; rw [stage_level w s]; exact Nat.le_refl 0) (fun e _ => by
        rcases e with k | k | k
        · exact Nat.one_pos
        · exact Nat.two_pos
        · show 0 < if k.val < 4 then 2 else 3
          split <;> decide)
    rcases t with ⟨_ | _, ht⟩
    · exact h evs
    · exact h []

/-! ## The run -/

def finalA (c : Dev nD) (w : Fin cfg0.W) : Buf (Elt F) ((cfg0.win w).arr.view.loc (c : Thread nD τ)) := (dats m ρ 0 c).arrAt w cfg0.N

def Ends (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- Every weakly fair execution of @main on the four devices, for any float values, from any memory with zero counters,
    terminates; every final state has each device's result at the computed contents, its operands unchanged, and every
    semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_moe m ρ) $$ HX with HG
      imodintro
      isplitl [HP] <;> iassumption)
    (hglob := glob m ρ)
    (hA := fun _ _ => rfl) (hpf := fun _ k => k.elim0)
    (X := start m ρ) (Y := fun c => unscopedSems0 c) (Z := unused m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold unused
      iintro ⟨Hu, Hm, HSI⟩
      icombine HSI Hm gives %hm
      imod (Pipeline.unscopedSems0_read (X := unscopedSems0 c) (c := c) fupd_intro s') $$ [Hu HSI] with ⟨%hs, HSI⟩
      · isplitl [Hu] <;> iassumption
      imodintro
      isplitr
      · ipureintro; exact ⟨funext fun i => hm i (Finset.mem_univ i), hs⟩
      iexact HSI)
    (hQ := fun _ h hs => ⟨fun c => ⟨(h c).1, (h c).2.2.1⟩, sem_eq_zero hs fun c => (h c).2.2.2⟩)

end Cert.Moe

end
-- ==== Proof.Frames.lean ====
/-
  THE FRAMES: every program terminates, keeps its arguments and ends with every semaphore at zero.
-/
module

public import proofs.«01_k».proof.Defs
public import proofs.«01_k».proof.Proof.Gen.Kernel
public import proofs.«01_k».proof.Proof.Launch
public import proofs.«01_k».proof.Proof.Gen.ReferenceIdeal.Run

@[expose] public section

noncomputable section

namespace Cert.Moe

open Cert.KernelIdeal Cert.KernelIdeal.Gen
open Idealize.ShloMosaic Idealize.ShloMosaic.TcCoe
open Idealize.SL.Sem

section
variable {F : FTy → Type} [FloatOps F] (m : (ℓ : Loc nD τ sig) → Buf (Elt F) ℓ) (ρ : Dev nD → PrngReg)

/-- A final state has the arguments unchanged … -/
theorem Ends.kept {r} (h : Ends m ρ r) (c : Dev nD) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  ⟨((h c).1 (0 : Fin 4)).trans ((dats m ρ 0 c).arrAt_in (0 : Fin 4) rfl _), (h c).2,
    ((h c).1 (1 : Fin 4)).trans ((dats m ρ 0 c).arrAt_in (1 : Fin 4) rfl _), ((h c).1 (2 : Fin 4)).trans ((dats m ρ 0 c).arrAt_in (2 : Fin 4) rfl _)⟩

/-- … and the result at the body's: its window's one block is the whole array. -/
theorem Ends.result {r} (h : Ends m ρ r) (c : Dev nD) : r.2.mem ((c : Thread nD τ).loc main_v1) = outAt m ρ c := by
  refine ((h c).1 (3 : Fin 4)).trans ?_
  have ho : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1),
      show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  exact (Memref.read_access_unit_zero (Elt F) main_v1 hz (fun a => by fin_cases a <;> decide) _).symm.trans ho

/-- An operand is staged whole. -/
theorem xstg_eq (c : Dev nD) : xstg m ρ c = m ((c : Thread nD τ).loc main_arg0) :=
  Memref.read_access_unit_zero (Elt F) main_arg0 (show (fun a => (win0_0.index (0 : Fin 1)) a * main_arg0.ty.shape.size a) = fun _ => 0 from
    funext fun a => by fin_cases a <;> decide) (fun a => by fin_cases a <;> decide) _
theorem rstg_eq (c : Dev nD) : rstg m ρ c = m ((c : Thread nD τ).loc main_arg2) :=
  Memref.read_access_unit_zero (Elt F) main_arg2 (show (fun a => (win0_1.index (0 : Fin 1)) a * main_arg2.ty.shape.size a) = fun _ => 0 from
    funext fun a => by fin_cases a <;> decide) (fun a => by fin_cases a <;> decide) _
theorem wstg_eq (c : Dev nD) : wstg m ρ c = m ((c : Thread nD τ).loc main_arg3) :=
  Memref.read_access_unit_zero (Elt F) main_arg3 (show (fun a => (win0_2.index (0 : Fin 1)) a * main_arg3.ty.shape.size a) = fun _ => 0 from
    funext fun a => by fin_cases a <;> decide) (fun a => by fin_cases a <;> decide) _
end

/-- The two printed kernels are one text: their body tables agree. -/
theorem bodies_same {F : FTy → Type} [FloatOps F] : Cert.Kernel.defs₀ (F := F) = Cert.KernelIdeal.defs₀ := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))
theorem tables_same {F : FTy → Type} [FloatOps F] : Cert.Kernel.defs (F := F) = Cert.KernelIdeal.defs := by
  unfold Cert.Kernel.defs Cert.KernelIdeal.defs
  rw [bodies_same]; rfl

theorem frame_kernel : Cert.quiescent_Kernel := by
  intro m ρ _
  rw [tables_same]
  exact (θ_run Cert.KernelIdeal.defs _ _).mono (fun _ h => ⟨h.1.kept m ρ, h.2⟩) (run_main (F := Bits) m ρ)

theorem frame_kernel_ideal : Cert.quiescent_KernelIdeal := fun m ρ _ =>
  (θ_run Cert.KernelIdeal.defs _ _).mono (fun _ h => ⟨h.1.kept m ρ, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Moe

end
-- ==== Proof.Sums.lean ====
/-
  WHAT A DEVICE COMPUTES, SUMMED: over the extended reals a device's result is the sum, over the sixteen experts, of its
  rows' products with the expert's weights where the gate is one.
-/
module

public import proofs.«01_k».proof.Proof.Frames
public import Idealize.ShloMosaic.Lib.Pointwise

@[expose] public section

noncomputable section

namespace Cert.Moe

open Cert.KernelIdeal Cert.KernelIdeal.Gen
open Idealize.ShloMosaic Idealize.ShloMosaic.TcCoe

/-! ## One expert's contribution -/

section
variable {F : FTy → Type} [FloatOps F]
/-- The row with a one at expert `e`. -/
def pick (e : BitVec 32) : FVec F S1x16 .f32 :=
  sitofp .f32 (extui 32 (cmpi .eq (iota .tc S1x16 32 [1] iota_S1x16_d1_w32) (broadcast S1x16 e)) natLt_1_32)
/-- The gate's column of the picked expert. -/
def column (g : FVec F S512x16 .bf16) (p : FVec F S1x16 .f32) : FVec F S512x1 .bf16 :=
  truncf .bf16 (shapeCast S512x1 (multiReduction .add [1] S512 (extf .f32 (mulf g (broadcastTo S512x16 (truncf .bf16 p bitsLt_bf16_f32)
    broadcasts_S1x16_S512x16)) bitsLt_bf16_f32) 0x00000000#32 reduces_S512x16_S512 (.inl rfl) rfl) shapeCasts_S512_S512x1) bitsLt_bf16_f32
/-- The accumulator with the contribution of expert `e`, of weights `w`, added. -/
def plus (g : FVec F S512x16 .bf16) (x : FVec F S512x256 .bf16) (acc : FVec F S512x512 .f32) (e : BitVec 32) (w : Vec F S1x256x512 .bf16) :
    FVec F S512x512 .f32 :=
  addf acc (matmul dot_S512x256_S256x512_S512x512_1_0_0_1_n_n none (mulf x (broadcastTo S512x256 (column g (pick e)) broadcasts_S512x1_S512x256))
    (shapeCast S256x512 w shapeCasts_S1x256x512_S256x512) (constant S512x512 .f32 0x00000000#32))

/-- The word of expert `2 h + j` of the block of word `b`. -/
def exW (b : BitVec 32) (h j : BitVec 32) : BitVec 32 := Scalar.addi (Scalar.addi (Scalar.muli b 4#32) h) j
/-- A block's four contributions. -/
def block4 (g : FVec F S512x16 .bf16) (x : FVec F S512x256 .bf16) (acc : FVec F S512x512 .f32) (b : BitVec 32) (w : Fin 4 → Vec F S1x256x512 .bf16) :
    FVec F S512x512 .f32 :=
  plus g x (plus g x (plus g x (plus g x acc (exW b 0#32 0#32) (w 0)) (exW b 0#32 1#32) (w 1)) (exW b 2#32 0#32) (w 2)) (exW b 2#32 1#32) (w 3)

variable (m : (ℓ : Loc nD τ sig) → Buf (Elt F) ℓ) (ρ : Dev nD → PrngReg)

theorem acc2_eq (c : Dev nD) : acc2 m ρ c = block4 (gate m ρ c) (rowsOf m ρ c) k0_pay7 (ownW c) (wOf m ρ c) := rfl
theorem acc5_eq (c : Dev nD) : acc5 m ρ c = block4 (gate m ρ c) (rowsOf m ρ c) (acc2 m ρ c) (leftW c) (wOf m ρ (dv 1 c)) := rfl
theorem acc7_eq (c : Dev nD) : acc7 m ρ c = block4 (gate m ρ c) (rowsOf m ρ c) (acc5 m ρ c) (rightW c) (wOf m ρ (dv 0 c)) := rfl
theorem outAt_eq (c : Dev nD) : outAt m ρ c = block4 (gate m ρ c) (rowsOf m ρ c) (acc7 m ρ c) (acrossW c) (wOf m ρ (dv 2 c)) := rfl

theorem ownW_eq : ∀ c : Dev nD, ownW c = BitVec.ofNat 32 c.val := by decide
theorem leftW_eq : ∀ c : Dev nD, leftW c = BitVec.ofNat 32 (dv 1 c).val := by decide
theorem rightW_eq : ∀ c : Dev nD, rightW c = BitVec.ofNat 32 (dv 0 c).val := by decide
theorem acrossW_eq : ∀ c : Dev nD, acrossW c = BitVec.ofNat 32 (dv 2 c).val := by decide
theorem exW_eq : ∀ (a : Dev nD) (j : Fin 4), exW (BitVec.ofNat 32 a.val) ((![0#32, 0#32, 2#32, 2#32] : Fin 4 → _) j) ((![0#32, 1#32, 0#32, 1#32] : Fin 4 → _) j)
    = BitVec.ofNat 32 (exOf a j).val := by decide
end

/-! ## At the extended reals -/

/-- A one-bit word read as a number. -/
theorem bit_value (b : BitVec 1) : (FloatOps.sitofp .f32 (BitVec.setWidth 32 b) : Ideal .f32) = if b = 1#1 then 1 else 0 := by
  rcases (by decide : ∀ b : BitVec 1, b = 0#1 ∨ b = 1#1) b with h | h <;> subst h
  · rw [if_neg (by decide)]; show (((0#32).toInt : ℝ) : EReal) = 0; simp
  · rw [if_pos rfl]; show (((1#32).toInt : ℝ) : EReal) = 1; simp
theorem eq_bit (a b : BitVec 32) : IntOp.cmpi .eq a b = 1#1 ↔ a = b := by
  rw [WordCmp.cmpi_eq_eq]; by_cases h : a = b <;> simp [h]
theorem expert_inj (a b : Fin 16) : BitVec.ofNat 32 a.val = BitVec.ofNat 32 b.val ↔ a = b := by revert a b; decide

theorem pick_apply (e l : Fin 16) : pick (F := Ideal) (BitVec.ofNat 32 e.val) (ix2 0 l) = if l = e then 1 else 0 := by
  pointwise [pick]
  rw [bit_value]; simp only [eq_bit, expert_inj]

theorem column_apply (g : FVec Ideal S512x16 .bf16) (e : Fin 16) (r : Fin 512) : column g (pick (BitVec.ofNat 32 e.val)) (ix2 r 0) = g (ix2 r e) := by
  pointwise [column]
  simp only [pick_apply, mul_ite, mul_one, mul_zero, Finset.sum_ite_eq', Finset.mem_univ, if_true]

theorem plus_apply (g : FVec Ideal S512x16 .bf16) (x : FVec Ideal S512x256 .bf16) (acc : FVec Ideal S512x512 .f32) (e : Fin 16) (w : Vec Ideal S1x256x512 .bf16)
    (r h : Fin 512) : plus g x acc (BitVec.ofNat 32 e.val) w (ix2 r h) = acc (ix2 r h) + ∑ k : Fin 256, x (ix2 r k) * g (ix2 r e) * w (ix3 0 k h) := by
  pointwise [plus]
  simp only [column_apply]

variable (m : (ℓ : Loc nD τ sig) → Buf (Elt Ideal) ℓ) (ρ : Dev nD → PrngReg)

/-- One where a route is the expert. -/
def hit (w : BitVec 32) (e : Fin 16) : ℕ := if w = BitVec.ofNat 32 e.val then 1 else 0
theorem hit_pos (w : BitVec 32) (e : Fin 16) : 0 < hit w e ↔ w = BitVec.ofNat 32 e.val := by unfold hit; split <;> simp_all
/-- Row `r`'s route on device `d`. -/
def routeOf (d : Dev nD) (r : Fin 512) : BitVec 32 := rstg m ρ d (ix2 r 0)

theorem onehot_apply (v : Vec Ideal S512x1 .i32) (r : Fin 512) (e : Fin 16) : k0_pay1 (F := Ideal) v (ix2 r e) = ((hit (v (ix2 r 0)) e : ℕ) : EReal) := by
  pointwise [k0_pay1]
  rw [bit_value]; simp only [eq_bit]; unfold hit; split <;> simp

theorem counts_apply (d : Dev nD) (e : Fin 16) : cAll m ρ (ix2 d e) = ((∑ r : Fin 512, hit (routeOf m ρ d r) e : ℕ) : EReal) := by
  show k0_pay2 (F := Ideal) (rstg m ρ d) (ix2 0 e) = _
  pointwise [k0_pay2]
  simp only [onehot_apply]
  rw [Nat.cast_sum]; rfl

theorem lt_bit (a b : ℕ) (ha : a < 2 ^ 31) (hb : b < 2 ^ 31) : IntOp.cmpi .slt (BitVec.ofNat 32 a) (BitVec.ofNat 32 b) = 1#1 ↔ a < b := by
  rw [IntOp.cmpi_slt, BitVec.toInt_eq_toNat_of_lt (by rw [BitVec.toNat_ofNat]; omega), BitVec.toInt_eq_toNat_of_lt (by rw [BitVec.toNat_ofNat]; omega),
    BitVec.toNat_ofNat, BitVec.toNat_ofNat]
  omega
theorem meW_eq : ∀ c : Dev nD, meW c = BitVec.ofNat 32 c.val := by decide
theorem capacity_value : Ideal.ofBits .f32 0x42CC0000#32 = ((102 : ℕ) : EReal) := by
  rw [show ((102 : ℕ) : EReal) = ((102 : ℝ) : EReal) by norm_cast]
  simp [Ideal.ofBits, Ideal.ieee, -EReal.coe_mul]; norm_num

/-- How many rows before row `r` of device `c`, on its own device and on the devices before it, are routed to expert `e`. -/
def before (c : Dev nD) (r : Fin 512) (e : Fin 16) : ℕ :=
  (∑ d : Dev nD, if d.val < c.val then ∑ r : Fin 512, hit (routeOf m ρ d r) e else 0) + ∑ r' : Fin 512, if r'.val < r.val then hit (routeOf m ρ c r') e else 0

theorem select_of {α : Type} {w : BitVec 1} {p : Prop} [Decidable p] (h : w = 1#1 ↔ p) (a b : α) : Scalar.select w a b = if p then a else b :=
  if_congr h rfl rfl
/-- A gate is one where a positive count and a count below the capacity meet. -/
theorem gate_of {a : EReal} {f : Dev nD → EReal} {g : Fin 512 → EReal} {n : ℕ} {u : Dev nD → ℕ} {v : Fin 512 → ℕ} (ha : a = (n : EReal))
    (hf : ∀ d, f d = (u d : EReal)) (hg : ∀ r, g r = (v r : EReal)) :
    (Scalar.select (IntOp.andi (BitVec.ofBool (decide (0 < a))) (BitVec.ofBool (decide (∑ d, f d + ∑ r, g r < Ideal.ofBits .f32 0x42CC0000#32)))) 1 0 : EReal)
      = if 0 < n ∧ ∑ d, u d + ∑ r, v r < 102 then 1 else 0 := by
  simp only [ha, hf, hg, capacity_value]
  rw [← Nat.cast_sum, ← Nat.cast_sum, ← Nat.cast_add]
  simp only [EReal.natCast_lt_iff, ← Nat.cast_zero (R := EReal)]
  unfold Scalar.select
  by_cases h1 : 0 < n <;> by_cases h2 : ∑ d, u d + ∑ r, v r < 102 <;> simp [h1, h2, IntOp.andi]

theorem gate_apply (c : Dev nD) (r : Fin 512) (e : Fin 16) :
    gate m ρ c (ix2 r e) = if routeOf m ρ c r = BitVec.ofNat 32 e.val ∧ before m ρ c r e < 102 then 1 else 0 := by
  have hd (d : Dev nD) : Scalar.select (IntOp.cmpi .slt (BitVec.ofNat 32 d.val) (meW c)) (cAll m ρ (ix2 d e) : EReal) (zeroF (F := Ideal))
      = ((if d.val < c.val then ∑ r : Fin 512, hit (routeOf m ρ d r) e else 0 : ℕ) : EReal) := by
    have : d.val < 4 := d.isLt
    have : c.val < 4 := c.isLt
    rw [meW_eq, select_of (lt_bit d.val c.val (by omega) (by omega)), counts_apply]
    split
    · rfl
    · exact (Ideal.ofBits_zero .f32).trans Nat.cast_zero.symm
  have hr (r' : Fin 512) : (FloatOps.sitofp .f32 (BitVec.setWidth 32 (IntOp.cmpi .slt (BitVec.ofNat 32 r'.val) (BitVec.ofNat 32 r.val))) : Ideal .f32)
        * k0_pay1 (F := Ideal) (rstg m ρ c) (ix2 r' e)
      = ((if r'.val < r.val then hit (routeOf m ρ c r') e else 0 : ℕ) : EReal) := by
    rw [bit_value, onehot_apply]
    simp only [lt_bit r'.val r.val (by omega) (by omega)]
    split
    · exact one_mul _
    · rw [zero_mul, Nat.cast_zero]
  unfold gate
  pointwise [k0_pay5, k0_pay4]
  have key := gate_of (onehot_apply (rstg m ρ c) r e) hd hr
  refine Eq.trans ?_ (key.trans ?_)
  · congr 1
  · rw [before]
    simp only [hit_pos]
    rfl

/-- Entry `(k, h)` of expert `e`'s weights. -/
def wtOf (e : Fin 16) (k : Fin 256) (h : Fin 512) : EReal :=
  wstg m ρ ⟨e.val / 4, (Nat.div_lt_iff_lt_mul (by decide)).mpr e.isLt⟩ (ix3 (⟨e.val % 4, Nat.mod_lt _ (by decide)⟩ : Fin 4) k h)
/-- Entry `(r, k)` of device `c`'s rows. -/
def xOf (c : Dev nD) (r : Fin 512) (k : Fin 256) : EReal := xstg m ρ c (ix2 r k)
/-- What expert `e` adds to entry `(r, h)` of device `c`'s result. -/
def part (c : Dev nD) (r h : Fin 512) (e : Fin 16) : EReal :=
  if routeOf m ρ c r = BitVec.ofNat 32 e.val ∧ before m ρ c r e < 102 then ∑ k : Fin 256, xOf m ρ c r k * wtOf m ρ e k h else 0

theorem wOf_apply (a : Dev nD) (j : Fin 4) (k : Fin 256) (h : Fin 512) : wOf m ρ a j (ix3 0 k h) = wtOf m ρ (exOf a j) k h := by
  show k0_pay3 (F := Ideal) (wstg m ρ _) (ix3 _ k h) = _
  pointwise [k0_pay3]
  rfl
theorem rowsOf_apply (c : Dev nD) (r : Fin 512) (k : Fin 256) : rowsOf m ρ c (ix2 r k) = xOf m ρ c r k := by
  unfold rowsOf
  pointwise [k0_pay6]
  rfl

theorem plus_part (c : Dev nD) (acc : FVec Ideal S512x512 .f32) (a : Dev nD) (j : Fin 4) (r h : Fin 512) :
    plus (gate m ρ c) (rowsOf m ρ c) acc (BitVec.ofNat 32 (exOf a j).val) (wOf m ρ a j) (ix2 r h) = acc (ix2 r h) + part m ρ c r h (exOf a j) := by
  rw [plus_apply]
  refine congrArg _ ?_
  simp only [gate_apply, wOf_apply, rowsOf_apply, mul_ite, mul_one, mul_zero, ite_mul, zero_mul]
  unfold part
  split
  · rfl
  · exact Finset.sum_const_zero

theorem block4_apply (c : Dev nD) (acc : FVec Ideal S512x512 .f32) (a : Dev nD) (r h : Fin 512) :
    block4 (gate m ρ c) (rowsOf m ρ c) acc (BitVec.ofNat 32 a.val) (wOf m ρ a) (ix2 r h) = acc (ix2 r h) + ∑ j : Fin 4, part m ρ c r h (exOf a j) := by
  have h0 : exW (BitVec.ofNat 32 a.val) 0#32 0#32 = _ := exW_eq a 0
  have h1 : exW (BitVec.ofNat 32 a.val) 0#32 1#32 = _ := exW_eq a 1
  have h2 : exW (BitVec.ofNat 32 a.val) 2#32 0#32 = _ := exW_eq a 2
  have h3 : exW (BitVec.ofNat 32 a.val) 2#32 1#32 = _ := exW_eq a 3
  unfold block4
  rw [h0, h1, h2, h3, plus_part, plus_part, plus_part, plus_part, Fin.sum_univ_four]
  simp only [add_assoc]

/-- The sixteen experts, a device's four at a time, from any device on. -/
theorem sum_experts (t : Fin 16 → EReal) (c : Dev nD) : ∑ e, t e
    = (∑ j, t (exOf c j)) + (∑ j, t (exOf (dv 1 c) j)) + (∑ j, t (exOf (dv 0 c) j)) + ∑ j, t (exOf (dv 2 c) j) := by
  have h1 : ∑ e, t e = ∑ a : Fin 4, ∑ j : Fin 4, t (exOf a j) := by
    simp only [Fin.sum_univ_succ, Fin.sum_univ_zero, add_zero, add_assoc]; rfl
  have h2 (u : Fin 4 → EReal) : ∀ c : Fin 4, ∑ a, u a = u c + u (dv 1 c) + u (dv 0 c) + u (dv 2 c) := by
    intro c
    rw [Fin.sum_univ_four]
    fin_cases c
    · show _ = u 0 + u 3 + u 1 + u 2; abel
    · show _ = u 1 + u 0 + u 2 + u 3; abel
    · show _ = u 2 + u 1 + u 3 + u 0; abel
    · show _ = u 3 + u 2 + u 0 + u 1; abel
  exact h1.trans (h2 (fun a => ∑ j, t (exOf a j)) c)

/-- A device's result: over the experts, its row's product with the weights of the expert that keeps it. -/
theorem outAt_apply (c : Dev nD) (r h : Fin 512) : outAt m ρ c (ix2 r h) = ∑ e : Fin 16, part m ρ c r h e := by
  rw [outAt_eq, acrossW_eq, block4_apply, acc7_eq, rightW_eq, block4_apply, acc5_eq, leftW_eq, block4_apply, acc2_eq, ownW_eq, block4_apply,
    show (k0_pay7 (F := Ideal)) (ix2 r h) = (0 : EReal) from Ideal.ofBits_zero .f32, zero_add, sum_experts _ c]

end Cert.Moe

end
-- ==== Proof.Answer.lean ====
/-
  WHAT THE REFERENCE COMPUTES: entry `(n, h)` of the reference's result is the sum, over the sixteen experts, of row `n`'s
  product with the expert's weights where row `n` is routed to the expert and fewer than the capacity's rows before it are.
-/
module

public import proofs.«01_k».proof.Proof.Prefix
public import proofs.«01_k».proof.Proof.Sums

@[expose] public section

noncomputable section

namespace Cert.Moe

open Cert.ReferenceIdeal Cert.ReferenceIdeal.Gen
open Idealize.ShloMosaic Idealize.ShloMosaic.TcCoe

section
variable {F : FTy → Type} [FloatOps F]
/-- Which rows are routed to which expert. -/
def routed (R : IVec S2048x1 32) : IVec S2048x16 1 :=
  cmpi .eq (broadcastInDim S2048x16 ![0, 1] bcast_S2048x1_S2048x16_0_1 R)
    (broadcastInDim S2048x16 ![0, 1] bcast_S1x16_S2048x16_0_1 (broadcastInDim S1x16 ![1] bcast_S16_S1x16_1 (iotaInDim S16 32 0)))
/-- How many rows, down to a row, are routed to an expert. -/
def downTo (R : IVec S2048x1 32) : IVec S2048x16 32 :=
  Host.reduceWindow IntOp.addi ![2048, 1] ![1, 1] ![2047, 0] ![0, 0] (extui 32 (routed R) natLt_1_32)
    (broadcastInDim S_ ![] bcast_S_S_ (constantI S_ 32 0#32)) reduceWindows_S2048x16_S2048x16_w2048s1p2047_0_w1s1p0_0 h_S_
/-- Which rows each expert keeps. -/
def kept (R : IVec S2048x1 32) (D : IVec S2048x16 32) : IVec S2048x16 1 :=
  andi (routed R) (cmpi .slt (subi D (extui 32 (routed R) natLt_1_32))
    (broadcastInDim S2048x16 ![] bcast_S_S2048x16 (constantI S_ 32 102#32)))
/-- The kept products, summed over the experts. -/
def answer (X : FVec F S2048x256 .bf16) (W : FVec F S16x256x512 .bf16) (K : IVec S2048x16 1) : FVec F S2048x512 .f32 :=
  Host.reduceAdd (select (broadcastInDim S2048x16x512 ![0, 1, 2] bcast_S2048x16x1_S2048x16x512_0_1_2
        (broadcastInDim S2048x16x1 ![0, 1] bcast_S2048x16_S2048x16x1_0_1 K))
      (Host.dotGeneral dot_S2048x256_S16x256x512_S2048x16x512_1_1_0_02_n_n none (extf .f32 X bitsLt_bf16_f32) (extf .f32 W bitsLt_bf16_f32))
      (broadcastInDim S2048x16x512 ![] bcast_S_S2048x16x512 (id (constant S_ .f32 0x00000000#32))))
    (constant S_ .f32 0x00000000#32) reducesTo_S2048x16x512_S2048x512_d1 h_S_

theorem reference_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v16) = answer (m ((c.tc : Thread nD τ).loc main_arg0)) (m ((c.tc : Thread nD τ).loc main_arg3))
          (kept (m ((c.tc : Thread nD τ).loc main_arg2)) (downTo (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.ReferenceIdeal.Value.run m ρ
end

theorem routed_apply (R : IVec S2048x1 32) (n : Fin 2048) (e : Fin 16) : routed R (ix2 n e) = 1#1 ↔ R (ix2 n 0) = BitVec.ofNat 32 e.val := by
  pointwise [routed]
  exact eq_bit _ _

theorem widened (R : IVec S2048x1 32) (n : Fin 2048) (e : Fin 16) :
    extui 32 (routed R) natLt_1_32 (ix2 n e) = BitVec.ofNat 32 (hit (R (ix2 n 0)) e) := by
  have h := routed_apply R n e
  show BitVec.setWidth 32 (routed R (ix2 n e)) = _
  unfold hit
  by_cases hr : R (ix2 n 0) = BitVec.ofNat 32 e.val
  · rw [if_pos hr, h.mpr hr]; rfl
  · rw [if_neg hr]
    rcases (by decide : ∀ b : BitVec 1, b = 0#1 ∨ b = 1#1) (routed R (ix2 n e)) with h0 | h1
    · rw [h0]; rfl
    · exact absurd (h.mp h1) hr

/-- Row `n`'s contribution to expert `e`'s count, at any number `n`. -/
def hitAt (R : IVec S2048x1 32) (e : Fin 16) (n : ℕ) : ℕ := if h : n < 2048 then hit (R (ix2 (⟨n, h⟩ : Fin 2048) 0)) e else 0
theorem hitAt_val (R : IVec S2048x1 32) (e : Fin 16) (n : Fin 2048) : hitAt R e n.val = hit (R (ix2 n 0)) e := dif_pos n.isLt
/-- How many rows before row `n` are routed to expert `e`. -/
def earlier (R : IVec S2048x1 32) (n : ℕ) (e : Fin 16) : ℕ := ∑ i ∈ Finset.range n, hitAt R e i

theorem downTo_apply (R : IVec S2048x1 32) (n : Fin 2048) (e : Fin 16) :
    downTo R (ix2 n e) = BitVec.ofNat 32 (earlier R n.val e + hit (R (ix2 n 0)) e) := by
  refine (running_total (P := 2047) _ (hitAt R e) e (fun n => (widened R n e).trans (congrArg _ (hitAt_val R e n).symm)) _ (fun _ => rfl)
    reduceWindows_S2048x16_S2048x16_w2048s1p2047_0_w1s1p0_0 h_S_ n).trans ?_
  rw [list_sum_range, Finset.sum_range_succ, hitAt_val]
  rfl

theorem hit_le (w : BitVec 32) (e : Fin 16) : hit w e ≤ 1 := by unfold hit; split <;> omega
theorem earlier_le (R : IVec S2048x1 32) (n : ℕ) (e : Fin 16) : earlier R n e ≤ n := by
  calc earlier R n e ≤ ∑ i ∈ Finset.range n, 1 := Finset.sum_le_sum fun i _ => by unfold hitAt; split <;> [exact hit_le _ _; omega]
    _ = n := by rw [Finset.sum_const, Finset.card_range, smul_eq_mul, Nat.mul_one]

theorem kept_apply (R : IVec S2048x1 32) (n : Fin 2048) (e : Fin 16) :
    kept R (downTo R) (ix2 n e) = 1#1 ↔ R (ix2 n 0) = BitVec.ofNat 32 e.val ∧ earlier R n.val e < 102 := by
  have hr := routed_apply R n e
  have hs : subi (downTo R) (extui 32 (routed R) natLt_1_32) (ix2 n e) = BitVec.ofNat 32 (earlier R n.val e) := by
    show downTo R (ix2 n e) - extui 32 (routed R) natLt_1_32 (ix2 n e) = _
    rw [downTo_apply, widened, BitVec.ofNat_add]
    exact BitVec.add_sub_cancel _ _
  have hn := earlier_le R n.val e
  have hl := lt_bit (earlier R n.val e) 102 (by omega) (by omega)
  rw [← hr, ← hl, ← hs]
  exact (by decide : ∀ a b : BitVec 1, IntOp.andi a b = 1#1 ↔ a = 1#1 ∧ b = 1#1) _ _

theorem answer_apply (X : FVec Ideal S2048x256 .bf16) (W : FVec Ideal S16x256x512 .bf16) (K : IVec S2048x16 1) (n : Fin 2048) (h : Fin 512) :
    answer X W K (ix2 n h) = ∑ e : Fin 16, Scalar.select (K (ix2 n e)) (∑ k : Fin 256, (X (ix2 n k) * W (ix3 e k h) : EReal)) 0 := by
  pointwise [answer]
  rw [show (id (constant (F := Ideal) S_ .f32 0#32) ix0 : EReal) = 0 from Ideal.ofBits_zero .f32]

end Cert.Moe

end
-- ==== Proof.Agree.lean ====
/-
  THE KERNEL COMPUTES THE REFERENCE: from blocks of the reference's arguments every device's result is its block of the
  reference's result.
-/
module

public import proofs.«01_k».proof.Proof.Answer

@[expose] public section

noncomputable section

namespace Cert.Moe

open Cert.KernelIdeal Cert.KernelIdeal.Gen
open Idealize.ShloMosaic Idealize.ShloMosaic.TcCoe

/-! ## Blocks -/

/-- Row `r` of device `c`, among all the rows. -/
def rowAt (c : Dev nD) (r : Fin 512) : Fin 2048 := ⟨512 * c.val + r.val, by have : c.val < 4 := c.isLt; omega⟩

theorem block_rows {α : Type} {M : Nat} (c : Dev nD) (v : (⟨2, ![2048, M]⟩ : Shape).Idx → α) (t : Layout.Tiles ⟨2, ![512, M]⟩ ⟨2, ![2048, M]⟩ 0 4)
    (r : Fin 512) (l : Fin M) : Layout.block ⟨2, ![512, M]⟩ ⟨2, ![2048, M]⟩ 0 4 c v t (ix2 r l) = v (ix2 (rowAt c r) l) := by
  refine congrArg v (funext fun a => Fin.ext ?_)
  revert a
  rw [Fin.forall_fin_two]
  exact ⟨congrArg (· + r.val) (Nat.mul_comm c.val 512), rfl⟩

theorem block_experts {α : Type} (c : Dev nD) (v : (⟨3, ![16, 256, 512]⟩ : Shape).Idx → α) (t : Layout.Tiles ⟨3, ![4, 256, 512]⟩ ⟨3, ![16, 256, 512]⟩ 0 4)
    (j : Fin 4) (k : Fin 256) (l : Fin 512) :
    Layout.block ⟨3, ![4, 256, 512]⟩ ⟨3, ![16, 256, 512]⟩ 0 4 c v t (ix3 j k l) = v (ix3 (exOf c j) k l) := by
  refine congrArg v (funext fun a => Fin.ext ?_)
  match a with
  | ⟨0, _⟩ => exact congrArg (· + j.val) (Nat.mul_comm c.val 4)
  | ⟨1, _⟩ => rfl
  | ⟨2, _⟩ => rfl

/-! ## The two results -/

section
variable (m : (ℓ : Loc nD τ sig) → Buf (Elt Ideal) ℓ) (ρ : Dev nD → PrngReg)
variable (X : FVec Ideal ⟨2, ![2048, 256]⟩ .bf16) (R : IVec ⟨2, ![2048, 1]⟩ 32) (W : FVec Ideal ⟨3, ![16, 256, 512]⟩ .bf16)

/-- The devices' operands are the blocks of whole arrays. -/
def Cut : Prop := ∀ c : Dev nD, m ((c : Thread nD τ).loc main_arg0) = Layout.block ⟨2, ![512, 256]⟩ ⟨2, ![2048, 256]⟩ 0 4 c X
  ∧ m ((c : Thread nD τ).loc main_arg2) = Layout.block ⟨2, ![512, 1]⟩ ⟨2, ![2048, 1]⟩ 0 4 c R
  ∧ m ((c : Thread nD τ).loc main_arg3) = Layout.block ⟨3, ![4, 256, 512]⟩ ⟨3, ![16, 256, 512]⟩ 0 4 c W

variable {m X R W}

theorem Cut.route (h : Cut m X R W) (c : Dev nD) (r : Fin 512) : routeOf m ρ c r = R (ix2 (rowAt c r) 0) := by
  unfold routeOf
  rw [rstg_eq, (h c).2.1]
  exact block_rows c R _ r 0
theorem Cut.row (h : Cut m X R W) (c : Dev nD) (r : Fin 512) (k : Fin 256) : xOf m ρ c r k = X (ix2 (rowAt c r) k) := by
  unfold xOf
  rw [xstg_eq, (h c).1]
  exact block_rows c X _ r k
theorem Cut.weight (h : Cut m X R W) (e : Fin 16) (k : Fin 256) (l : Fin 512) : wtOf m ρ e k l = W (ix3 e k l) := by
  unfold wtOf
  rw [wstg_eq, (h _).2.2]
  refine (block_experts _ W _ _ k l).trans (congrArg (fun e => W (ix3 e k l)) (Fin.ext ?_))
  exact Nat.div_add_mod e.val 4

theorem Cut.hits (h : Cut m X R W) (c : Dev nD) (r : Fin 512) (e : Fin 16) : hit (routeOf m ρ c r) e = hitAt R e (512 * c.val + r.val) := by
  rw [h.route ρ c r]
  exact (hitAt_val R e (rowAt c r)).symm

/-- The rows before a device's row: those of the devices before it, and those before it on its own device. -/
theorem Cut.count (h : Cut m X R W) (c : Dev nD) (r : Fin 512) (e : Fin 16) : before m ρ c r e = earlier R (rowAt c r).val e := by
  have hc : c.val < 4 := c.isLt
  unfold before earlier
  simp only [h.hits ρ]
  rw [sum_below (fun d => ∑ r : Fin 512, hitAt R e (512 * d + r.val)) hc.le, sum_below (fun i => hitAt R e (512 * c.val + i)) r.isLt.le,
    show (rowAt c r).val = 512 * c.val + r.val from rfl, Finset.sum_range_add, sum_blocks]

theorem Cut.result (h : Cut m X R W) (c : Dev nD) :
    outAt m ρ c = Layout.block ⟨2, ![512, 512]⟩ ⟨2, ![2048, 512]⟩ 0 4 c (answer X W (kept R (downTo R))) := by
  funext i
  obtain ⟨r, l, rfl⟩ : ∃ r l, i = ix2 r l := ⟨i 0, i 1, eq_ix2 i⟩
  rw [outAt_apply]
  refine Eq.trans ?_ (block_rows c _ _ r l).symm
  rw [answer_apply]
  refine Finset.sum_congr rfl fun e _ => ?_
  rw [select_of (kept_apply R (rowAt c r) e)]
  unfold part
  simp only [h.route ρ, h.count ρ, h.row ρ, h.weight ρ]
end

/-- From blocks of the reference's arguments, the devices return the blocks of the reference's result, and both programs
    leave their arguments as they found them. -/
theorem values_agree : Cert.algebraic_KernelIdeal_ReferenceIdeal := by
  intro m ρ m' ρ' _ hargs
  have h : Cut m _ _ _ := fun c => ⟨(hargs c).1, (hargs c).2.2.1, (hargs c).2.2.2⟩
  refine ⟨_, (θ_run Cert.KernelIdeal.defs _ _).mono (fun r hr c => ⟨(hr.1.result m ρ c).trans (h.result ρ c), hr.1.kept m ρ c⟩) (run_main (F := Ideal) m ρ), ?_⟩
  exact (θ_run Cert.ReferenceIdeal.defs _ _).mono (fun r hr => hr 0) (reference_run m' ρ')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Moe.frame_kernel, Cert.Moe.frame_kernel_ideal, Cert.Moe.frame_reference, trivial, Cert.Moe.values_agree⟩

end Cert.Proof

end
